-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2)
      ∧ r.2.mem ((c.tc : Thread Cert.ClippedIdeal.nD Cert.ClippedIdeal.τ).loc Cert.ClippedIdeal.main_arg3) = m ((c.tc : Thread Cert.ClippedIdeal.nD Cert.ClippedIdeal.τ).loc Cert.ClippedIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ClippedIdeal_on_within_clip [hKernelIdeal : Cert.KernelIdeal.Facts] [hClippedIdeal : Cert.ClippedIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ClippedIdeal.nD).tc : Thread Cert.ClippedIdeal.nD Cert.ClippedIdeal.τ).loc Cert.ClippedIdeal.main_arg1))
      ∧ m ((c.tc : Thread Cert.KernelIdeal.nD Cert.KernelIdeal.τ).loc Cert.KernelIdeal.main_arg2) = m' (((0 : Dev Cert.ClippedIdeal.nD).tc : Thread Cert.ClippedIdeal.nD Cert.ClippedIdeal.τ).loc Cert.ClippedIdeal.main_arg2)
      ∧ m ((c.tc : Thread Cert.KernelIdeal.nD Cert.KernelIdeal.τ).loc Cert.KernelIdeal.main_arg3) = m' (((0 : Dev Cert.ClippedIdeal.nD).tc : Thread Cert.ClippedIdeal.nD Cert.ClippedIdeal.τ).loc Cert.ClippedIdeal.main_arg3)) →
    ∃ (v0 : Buf (Elt Ideal) (((0 : Dev Cert.ClippedIdeal.nD).tc : Thread Cert.ClippedIdeal.nD Cert.ClippedIdeal.τ).loc Cert.ClippedIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2048]⟩ : Shape).Idx, (Layout.block ⟨2, ![4096, 2048]⟩ ⟨2, ![4096, 8192]⟩ 1 4 c ((Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)) (m' (((0 : Dev Cert.ClippedIdeal.nD).tc : Thread Cert.ClippedIdeal.nD Cert.ClippedIdeal.τ).loc Cert.ClippedIdeal.main_arg3)))) : (⟨2, ![4096, 2048]⟩ : Shape).Idx → _) i = 1#1 → r.2.mem ((c.tc : Thread Cert.KernelIdeal.nD Cert.KernelIdeal.τ).loc Cert.KernelIdeal.main_v1) i = (Layout.block ⟨2, ![4096, 2048]⟩ ⟨2, ![4096, 8192]⟩ 1 4 c v0 : (⟨2, ![4096, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![4096, 8192]⟩ : Shape).Idx, (Cert.On_within_clip.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)) (m' (((0 : Dev Cert.ClippedIdeal.nD).tc : Thread Cert.ClippedIdeal.nD Cert.ClippedIdeal.τ).loc Cert.ClippedIdeal.main_arg2)) (m' (((0 : Dev Cert.ClippedIdeal.nD).tc : Thread Cert.ClippedIdeal.nD Cert.ClippedIdeal.τ).loc Cert.ClippedIdeal.main_arg3))) i = 1#1 → r.2.mem (((0 : Dev Cert.ClippedIdeal.nD).tc : Thread Cert.ClippedIdeal.nD Cert.ClippedIdeal.τ).loc Cert.ClippedIdeal.main_v10) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1)
          ∧ r.2.mem (((0 : Dev Cert.ClippedIdeal.nD).tc : Thread Cert.ClippedIdeal.nD Cert.ClippedIdeal.τ).loc Cert.ClippedIdeal.main_arg2) = m' (((0 : Dev Cert.ClippedIdeal.nD).tc : Thread Cert.ClippedIdeal.nD Cert.ClippedIdeal.τ).loc Cert.ClippedIdeal.main_arg2)
          ∧ r.2.mem (((0 : Dev Cert.ClippedIdeal.nD).tc : Thread Cert.ClippedIdeal.nD Cert.ClippedIdeal.τ).loc Cert.ClippedIdeal.main_arg3) = m' (((0 : Dev Cert.ClippedIdeal.nD).tc : Thread Cert.ClippedIdeal.nD Cert.ClippedIdeal.τ).loc Cert.ClippedIdeal.main_arg3))

def Claim : Prop :=
  ∃ (hKernel : Cert.Kernel.Facts) (hKernelIdeal : Cert.KernelIdeal.Facts) (hReferenceIdeal : Cert.ReferenceIdeal.Facts) (hClippedIdeal : Cert.ClippedIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_within_clip (hKernelIdeal := hKernelIdeal) (hClippedIdeal := hClippedIdeal) (hOn_within_clip := hOn_within_clip)
-- ==== On_within_clip.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x8192_0_1 : S1x1.BroadcastsInDim S4096x8192 (![0, 1] : Fin 2 → Fin S4096x8192.rank)
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) (main_arg2 : FVec F S1 .f32) (main_arg3 : FVec F S1 .f32) : IVec S4096x8192 1 :=
  let main_v0 : FVec F S4096x8192 .f32 := (fun l r => Host.dotGeneral dot_S4096x4096_S4096x8192_S4096x8192_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x8192 .f32 := broadcastInDim S4096x8192 ![0, 1] bcast_S1x1_S4096x8192_0_1 main_v2
  let main_v4 : FVec F S4096x8192 .f32 := mulf main_v0 main_v3
  let main_v5 : FVec F S4096x8192 .f32 := Host.absf main_v4
  let main_cst : FVec F S_ .f32 := constant S_ .f32 0x42700000#32
  let main_v6 : FVec F S4096x8192 .f32 := broadcastInDim S4096x8192 ![] bcast_S_S4096x8192 main_cst
  let main_v7 : IVec S4096x8192 1 := cmpf .ole main_v5 main_v6
  main_v7
-- ==== Kernel.lean ====
abbrev S1024x4096 : Shape := ⟨2, ![1024, 4096]⟩
abbrev S4096x2048 : Shape := ⟨2, ![4096, 2048]⟩
abbrev S1 : Shape := ⟨1, ![1]⟩
abbrev S256x4096 : Shape := ⟨2, ![256, 4096]⟩
abbrev S512x2048 : Shape := ⟨2, ![512, 2048]⟩
abbrev S2x1024x2048 : Shape := ⟨3, ![2, 1024, 2048]⟩
abbrev S_ : Shape := ⟨0, ![]⟩
abbrev S2 : Shape := ⟨1, ![2]⟩
abbrev S4 : Shape := ⟨1, ![4]⟩
abbrev S1024x2048 : Shape := ⟨2, ![1024, 2048]⟩
abbrev S1x1024x2048 : Shape := ⟨3, ![1, 1024, 2048]⟩
abbrev S512x4096 : Shape := ⟨2, ![512, 4096]⟩

abbrev nBuf : Space → Nat
  | .hbm => 5
  | .vmem => 8
  | .smem => 2
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x4096, .fp8e4m3⟩
  | .local _ .vmem, ⟨1, _⟩ => ⟨S1024x4096, .fp8e4m3⟩
  | .local _ .vmem, ⟨2, _⟩ => ⟨S1024x4096, .fp8e4m3⟩
  | .local _ .vmem, ⟨3, _⟩ => ⟨S1024x4096, .fp8e4m3⟩
  | .local _ .vmem, ⟨4, _⟩ => ⟨S4096x2048, .fp8e4m3⟩
  | .local _ .vmem, ⟨5, _⟩ => ⟨S256x4096, .f32⟩
  | .local _ .vmem, ⟨6, _⟩ => ⟨S512x2048, .f32⟩
  | .local _ .vmem, ⟨7, _⟩ => ⟨S2x1024x2048, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_46 : BitVec 32 := 1#32
  let v58 : BitVec 32 := Scalar.muli v24 c1_i32_46
  let v59 : BitVec 32 := Scalar.addi c0_i32_47 v58
  v59.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_50 : BitVec 32 := 1#32
  let v64 : BitVec 32 := Scalar.muli v13 c1_i32_50
  let v65 : BitVec 32 := Scalar.addi c0_i32_51 v64
  v65.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_113 : BitVec 32 := 1024#32
  let v139 : BitVec 32 := Scalar.muli v2 c1024_i32_113
  let c0_i32_116 : BitVec 32 := 0#32
  ![v139.toNat, 0]
def k0_dev5 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_125 : BitVec 32 := 1#32
  let v149 : BitVec 32 := Scalar.muli v24 c1_i32_125
  let v150 : BitVec 32 := Scalar.addi c0_i32_126 v149
  v150.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_138 : BitVec 32 := 1024#32
  let v167 : BitVec 32 := Scalar.muli v13 c1024_i32_138
  let c0_i32_141 : BitVec 32 := 0#32
  ![v167.toNat, 0]
def k0_dev6 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_149 : BitVec 32 := 1#32
  let v177 : BitVec 32 := Scalar.muli v13 c1_i32_149
  let v178 : BitVec 32 := Scalar.addi c0_i32_150 v177
  v178.toNat
def k0_off3 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_168 : BitVec 32 := 1024#32
  let v200 : BitVec 32 := Scalar.muli v24 c1024_i32_168
  let c0_i32_171 : BitVec 32 := 0#32
  ![v200.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== ClippedIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Protocol.lean ====
/-
# The ring all-gather's protocol: devices, buffers, cells and what each signal hands over

Four devices in a ring. Each casts its block of `x` to eight bits, sends it to BOTH neighbours, and forwards half of
what came from the left to the right and the other half of what came from the right to the left, so that the block of
the opposite device arrives in two halves by the two ways round. Between the transfers a device multiplies whatever
block it holds by its own columns of `w`.

Nine semaphores of a device are touched by another device or by a remote transfer, and run under the rounds library,
one round each:

* the barrier semaphore, two duties of one unit: `true`, paid by the right neighbour's first signal, hands over that
  neighbour's left landing buffer and the top half of its opposite buffer; `false`, paid by the left neighbour's second
  signal, hands over that neighbour's right landing buffer and the bottom half of its opposite buffer;
* four receive semaphores, one duty each, paid by the transfer that lands: the landed elements at the sender's block;
* four send semaphores, one duty each, paid by the same transfers: the share of the source that was lent.

The staging semaphore and the two output semaphores carry local copies only.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds, the ring's rounds, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
/-- The counters of the local transfers, found in the algebra by instance. -/
abbrev EC : UEmb Counters (MT nD τ sig Unit (Elt F) ℕ UU ℕ) := countersEmb

variable (m : (ℓ : Loc nD τ sig) → Buf (Elt F) ℓ)

/-! ## The ring -/

set_option backward.proofsInPublic true in
/-- The device to the right, -/
def nxt (c : Dev nD) : Dev nD := ⟨(c.val + 1) % 4, Nat.mod_lt _ (by decide)⟩
set_option backward.proofsInPublic true in
/-- the device to the left, -/
def prv (c : Dev nD) : Dev nD := ⟨(c.val + 3) % 4, Nat.mod_lt _ (by decide)⟩
set_option backward.proofsInPublic true in
/-- the device opposite. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem prv_prv (c : Dev nD) : prv (prv c) = opp c := by revert c; decide
theorem nxt_nxt (c : Dev nD) : nxt (nxt c) = opp c := by revert c; decide
theorem opp_nxt (c : Dev nD) : opp (nxt c) = prv c := by revert c; decide
theorem opp_prv (c : Dev nD) : opp (prv c) = nxt c := by revert c; decide

def ring : Dev nD ≃ Dev nD := ⟨nxt, prv, prv_nxt, nxt_prv⟩

/-! The devices the kernel addresses and the rows it writes, as the ring's. -/

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel

theorem offOwn_eq (c : Dev nD) : k0_off1 c = ![1024 * c.val, 0] := k0_off1_eq c
theorem offPrv_eq (c : Dev nD) : k0_off2 c = ![1024 * (prv c).val, 0] := by revert c; decide +kernel
theorem offNxt_eq (c : Dev nD) : k0_off3 c 1#32 = ![1024 * (nxt c).val, 0] := by revert c; decide +kernel
theorem offOpp_eq (c : Dev nD) : k0_off3 c 2#32 = ![1024 * (opp c).val, 0] := by revert c; decide +kernel

/-! ## The memrefs -/

abbrev xM : Memref sig .tc .hbm S1024x4096 .f32 := Memref.whole main_arg0
abbrev wM : Memref sig .tc .hbm S4096x2048 .f32 := Memref.whole main_arg1
abbrev outM : Memref sig .tc .hbm S4096x2048 .f32 := Memref.whole main_v1
abbrev ownM : Memref sig .tc .vmem S1024x4096 .fp8e4m3 := Memref.whole cc0_scratch0
abbrev clM : Memref sig .tc .vmem S1024x4096 .fp8e4m3 := Memref.whole cc0_scratch1
abbrev crM : Memref sig .tc .vmem S1024x4096 .fp8e4m3 := Memref.whole cc0_scratch2
abbrev opM : Memref sig .tc .vmem S1024x4096 .fp8e4m3 := Memref.whole cc0_scratch3
abbrev w8M : Memref sig .tc .vmem S4096x2048 .fp8e4m3 := Memref.whole cc0_scratch4
abbrev xsM : Memref sig .tc .vmem S256x4096 .f32 := Memref.whole cc0_scratch5
abbrev wsM : Memref sig .tc .vmem S512x2048 .f32 := Memref.whole cc0_scratch6
abbrev osM : Memref sig .tc .vmem S2x1024x2048 .f32 := Memref.whole cc0_scratch7

/-- The upper and lower 512 rows of a block. -/
abbrev rTop : Rect S1024x4096 := Rect.unit (s := S1024x4096) ![0, 0] S512x4096.size inb_S1024x4096_S512x4096_0_0
abbrev rBot : Rect S1024x4096 := Rect.unit (s := S1024x4096) ![512, 0] S512x4096.size inb_S1024x4096_S512x4096_512_0
abbrev clTop : Memref sig .tc .vmem S512x4096 .fp8e4m3 := clM.slice rTop (fun _ => rfl)
abbrev crBot : Memref sig .tc .vmem S512x4096 .fp8e4m3 := crM.slice rBot (fun _ => rfl)
abbrev opTop : Memref sig .tc .vmem S512x4096 .fp8e4m3 := opM.slice rTop (fun _ => rfl)
abbrev opBot : Memref sig .tc .vmem S512x4096 .fp8e4m3 := opM.slice rBot (fun _ => rfl)

/-! ## The semaphores and cells -/

abbrev barS : Sem sig := (SemArray.scalar (sig.barrier 0 rfl) : Sems sig S_).sem
abbrev stageS : DmaSem sig := cc0_scratch8.sem
abbrev outS0 : DmaSem sig := ((cc0_scratch9.slice (Rect.unit (s := S2) ![0] S1.size inb_S2_S1_0)).squeeze S_ squeezes_S1_S_).sem
abbrev outS1 : DmaSem sig := ((cc0_scratch9.slice (Rect.unit (s := S2) ![1] S1.size inb_S2_S1_1)).squeeze S_ squeezes_S1_S_).sem
abbrev sendS0 : DmaSem sig := ((cc0_scratch10.slice (Rect.unit (s := S4) ![0] S1.size inb_S4_S1_0)).squeeze S_ squeezes_S1_S_).sem
abbrev sendS1 : DmaSem sig := ((cc0_scratch10.slice (Rect.unit (s := S4) ![1] S1.size inb_S4_S1_1)).squeeze S_ squeezes_S1_S_).sem
abbrev sendS2 : DmaSem sig := ((cc0_scratch10.slice (Rect.unit (s := S4) ![2] S1.size inb_S4_S1_2)).squeeze S_ squeezes_S1_S_).sem
abbrev sendS3 : DmaSem sig := ((cc0_scratch10.slice (Rect.unit (s := S4) ![3] S1.size inb_S4_S1_3)).squeeze S_ squeezes_S1_S_).sem
abbrev recvS0 : DmaSem sig := ((cc0_scratch11.slice (Rect.unit (s := S4) ![0] S1.size inb_S4_S1_0)).squeeze S_ squeezes_S1_S_).sem
abbrev recvS1 : DmaSem sig := ((cc0_scratch11.slice (Rect.unit (s := S4) ![1] S1.size inb_S4_S1_1)).squeeze S_ squeezes_S1_S_).sem
abbrev recvS2 : DmaSem sig := ((cc0_scratch11.slice (Rect.unit (s := S4) ![2] S1.size inb_S4_S1_2)).squeeze S_ squeezes_S1_S_).sem
abbrev recvS3 : DmaSem sig := ((cc0_scratch11.slice (Rect.unit (s := S4) ![3] S1.size inb_S4_S1_3)).squeeze S_ squeezes_S1_S_).sem

/-- The nine semaphores under the rounds library: the barrier, the four receives, the four sends. -/
abbrev csem : Fin 9 → SemLoc sig := fun
  | 0 => .reg barS | 1 => .dma recvS0 | 2 => .dma recvS1 | 3 => .dma recvS2 | 4 => .dma recvS3
  | 5 => .dma sendS0 | 6 => .dma sendS1 | 7 => .dma sendS2 | 8 => .dma sendS3
abbrev kcell (ck : Dev nD × Fin 9) : GSem nD τ sig := ((ck.1 : Thread nD τ), csem ck.2)

/-- Which of the nine a semaphore is, if any. -/
def cidx (s : SemLoc sig) : Option (Fin 9) := (List.finRange 9).find? (fun k => csem k = s)

theorem cidx_csem (k : Fin 9) : cidx (csem k) = some k := by revert k; decide +kernel
theorem csem_inj {k k' : Fin 9} (h : csem k = csem k') : k = k' :=
  Option.some.inj ((cidx_csem k).symm.trans ((congrArg cidx h).trans (cidx_csem k')))
theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- What a whole block's transfer and a half block's transfer signal. -/
abbrev N : ℕ := (clM : Memref sig .tc .vmem S1024x4096 .fp8e4m3).view.dmaCredit
abbrev Nh : ℕ := (opTop : Memref sig .tc .vmem S512x4096 .fp8e4m3).view.dmaCredit
theorem N_pos : 0 < N := View.dmaCredit_pos _ (by decide)
theorem Nh_pos : 0 < Nh := View.dmaCredit_pos _ (by decide)

/-- The units of one duty of each of the nine. -/
def amt : Fin 9 → ℕ := fun
  | 0 => 1 | 1 => N | 2 => N | 3 => Nh | 4 => Nh | 5 => N | 6 => N | 7 => Nh | 8 => Nh
theorem amt_pos (k : Fin 9) : 0 < amt k := by
  fin_cases k
  · exact Nat.one_pos
  · exact N_pos
  · exact N_pos
  · exact Nh_pos
  · exact Nh_pos
  · exact N_pos
  · exact N_pos
  · exact Nh_pos
  · exact Nh_pos

/-! ## Contents -/

/-- Device `c`'s block of `x` and its columns of `w`, as launched; -/
def xv (c : Dev nD) : Vec F S1024x4096 .f32 := m ((c : Thread nD τ).loc main_arg0)
def wv (c : Dev nD) : Vec F S4096x2048 .f32 := m ((c : Thread nD τ).loc main_arg1)
/-- cast to eight bits; -/
def own (c : Dev nD) : Vec F S1024x4096 .fp8e4m3 := truncf .fp8e4m3 (xv m c) bitsLt_fp8e4m3_f32
def w8 (c : Dev nD) : Vec F S4096x2048 .fp8e4m3 := truncf .fp8e4m3 (wv m c) bitsLt_fp8e4m3_f32

/-! ## What is handed over -/

/-- The whole of a block buffer of device `c` at share `q`, contents `f`. -/
abbrev blk (b : Memref sig .tc .vmem S1024x4096 .fp8e4m3) (c : Dev nD) (q : PosShare TreeShare) (f : Buf (Elt F) (b.view.loc (c : Thread nD τ))) : sProp 𝕄 :=
  b.view.loc (c : Thread nD τ) ↦[b.view.set]{q} f
abbrev half (b : Memref sig .tc .vmem S512x4096 .fp8e4m3) (c : Dev nD) (q : PosShare TreeShare) (f : Buf (Elt F) (b.view.loc (c : Thread nD τ))) : sProp 𝕄 :=
  b.view.loc (c : Thread nD τ) ↦[b.view.set]{q} f

/-- The shares of its own block a device lends to its two first transfers, and the one it keeps. -/
abbrev qA : PosShare TreeShare := fullShare.left
abbrev qB : PosShare TreeShare := fullShare.right.left
abbrev qC : PosShare TreeShare := fullShare.right.right

/-- What the duty `d` of device `c`'s semaphore `k` hands over. -/
def pay (c : Dev nD) : Fin 9 → Bool → sProp 𝕄 := fun
  | 0 => fun d => if d then iprop((∃ f, blk clM (nxt c) fullShare f) ∗ ∃ f, half opTop (nxt c) fullShare f)
      else iprop((∃ f, blk crM (prv c) fullShare f) ∗ ∃ f, half opBot (prv c) fullShare f)
  | 1 => fun _ => blk clM c fullShare (own m (prv c))
  | 2 => fun _ => blk crM c fullShare (own m (nxt c))
  | 3 => fun _ => half opTop c fullShare (own m (opp c))
  | 4 => fun _ => half opBot c fullShare (own m (opp c))
  | 5 => fun _ => blk ownM c qA (own m c)
  | 6 => fun _ => blk ownM c qB (own m c)
  | 7 => fun _ => half clTop c qA (own m (prv c))
  | 8 => fun _ => half crBot c qA (own m (nxt c))

instance pay_storable (c : Dev nD) (k : Fin 9) (d : Bool) : BI.Storable (upEmb : UEmb _ 𝕄) (pay m c k d) := by
  fin_cases k <;> (try unfold pay) <;> dsimp only <;> (repeat' split) <;> infer_instance

/-- One round, round 0: the barrier has both duties, each of the other eight the duty `true`. -/
def dut : Fin 9 → Finset Bool := fun k => if k = 0 then Finset.univ else {true}

def Rd : Rounds.Schedule (GSem nD τ sig) Bool 𝕄 where
  duties g r := if r = 0 ∧ g.1.2 = .tc then (cidx g.2).elim ∅ dut else ∅
  unitless _ := False
  amount g _ _ := (cidx g.2).elim 1 amt
  payload g _ d := (cidx g.2).elim iprop(emp) fun k => pay m g.1.1 k d
  amount_pos g _ _ _ := by
    cases cidx g.2 with
    | none => exact Nat.one_pos
    | some k => exact amt_pos k

instance Rd_payload_storable (g : GSem nD τ sig) (r : ℕ) (d : Bool) :
    BI.Storable (upEmb : UEmb _ 𝕄) ((Rd (F := F) m).payload g r d) := by
  show BI.Storable upEmb ((cidx g.2).elim iprop(emp) fun k => pay m g.1.1 k d)
  cases cidx g.2 with
  | none => show BI.Storable upEmb iprop(emp); infer_instance
  | some k => show BI.Storable upEmb (pay m g.1.1 k d); infer_instance

section Sched
variable (c : Dev nD) (k : Fin 9)

theorem duties_at : (Rd (F := F) m).duties (kcell (c, k)) 0 = dut k := by
  dsimp only [Rd]; rw [if_pos ⟨rfl, rfl⟩, cidx_csem]; rfl
theorem duties_later (g : GSem nD τ sig) : ∀ r, 1 ≤ r → (Rd (F := F) m).duties g r = ∅ :=
  fun r hr => by dsimp only [Rd]; rw [if_neg fun h => by omega]
theorem amount_at (d : Bool) : (Rd (F := F) m).amount (kcell (c, k)) 0 d = amt k := by
  dsimp only [Rd]; rw [cidx_csem]; rfl
theorem payload_at (d : Bool) : (Rd (F := F) m).payload (kcell (c, k)) 0 d = pay m c k d := by
  dsimp only [Rd]; rw [cidx_csem]; rfl

theorem mem_dut_true : true ∈ (Rd (F := F) m).duties (kcell (c, k)) 0 := by
  rw [duties_at]; unfold dut; split
  · exact Finset.mem_univ _
  · exact Finset.mem_singleton_self _
theorem mem_dut_bar (d : Bool) : d ∈ (Rd (F := F) m).duties (kcell (c, 0)) 0 := by
  rw [duties_at]; exact Finset.mem_univ _

theorem expect_bar : (Rd (F := F) m).expect (kcell (c, 0)) 0 = 2 := by
  unfold Schedule.expect Schedule.amountOf
  rw [duties_at, Finset.sum_congr rfl fun d _ => amount_at m c 0 d, Finset.sum_const]; rfl
theorem expect_at (hk : k ≠ 0) : (Rd (F := F) m).expect (kcell (c, k)) 0 = amt k := by
  unfold Schedule.expect Schedule.amountOf
  rw [duties_at, show dut k = {true} from if_neg hk, Finset.sum_singleton, amount_at]

/-- The whole of the barrier's round: both neighbours' landing places. -/
theorem rest_bar : bigSep ((Rd (F := F) m).duties (kcell (c, 0)) 0 \ ∅) (fun d => (Rd (F := F) m).payload (kcell (c, 0)) 0 d)
    = iprop(pay m c 0 false ∗ pay m c 0 true) := by
  rw [Finset.sdiff_empty, duties_at, show dut 0 = Finset.univ from if_pos rfl, bigSep_univ_eq_bigSepL [false, true] (by decide) (by decide),
    bigSepL_cons_cons, bigSepL_singleton, payload_at, payload_at]
  rfl
/-- The whole of another cell's round: its one payload. -/
theorem rest_at (hk : k ≠ 0) : bigSep ((Rd (F := F) m).duties (kcell (c, k)) 0 \ ∅) (fun d => (Rd (F := F) m).payload (kcell (c, k)) 0 d)
    = pay m c k true := by
  rw [Finset.sdiff_empty, duties_at, show dut k = {true} from if_neg hk, bigSep_singleton, payload_at]

end Sched

/-! ## What each device owes at launch; the levels -/

/-- What device `c` still owes before its last payment, its last two, and so on back to the launch: it pays the left
    barrier, the right barrier, the block to the right, the block to the left, the half to the right, the half to the
    left, in this order. -/
def O₅ (c : Dev nD) : CellTallies nD τ sig Unit := 0 + tallyAt (kcell (prv c, 4)) () Nh
def O₄ (c : Dev nD) : CellTallies nD τ sig Unit := O₅ c + tallyAt (kcell (nxt c, 3)) () Nh
def O₃ (c : Dev nD) : CellTallies nD τ sig Unit := O₄ c + tallyAt (kcell (prv c, 2)) () N
def O₂ (c : Dev nD) : CellTallies nD τ sig Unit := O₃ c + tallyAt (kcell (nxt c, 1)) () N
def O₁ (c : Dev nD) : CellTallies nD τ sig Unit := O₂ c + tallyAt (kcell (nxt c, 0)) () 1
def O₀ (c : Dev nD) : CellTallies nD τ sig Unit := O₁ c + tallyAt (kcell (prv c, 0)) () 1

/-- The levels: the barrier below the whole blocks' receives, these below the halves'; everything else at the bottom. -/
def rk : Fin 9 → ℕ := ![1, 2, 2, 3, 3, 0, 0, 0, 0]
def L (g : GSem nD τ sig) : Finset Unit := if g.1.2 = .tc then {()} else ∅
def lv (g : GSem nD τ sig) (_ : Unit) : ℕ := (cidx g.2).elim 0 rk

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Fin 9) : lv (kcell (c, k)) () = rk k := by unfold lv; rw [cidx_csem]; rfl

/-- Everything owed is owed to a TensorCore's cell above level `n`. -/
def Above (n : ℕ) (O : CellTallies nD τ sig Unit) : Prop := ∀ g u, 0 < O g u → g.1.2 = .tc ∧ n < lv g u

theorem above_zero (n : ℕ) : Above n 0 := fun g u h => absurd h (by simp)
theorem above_tally (n : ℕ) (c : Dev nD) (k : Fin 9) (a : ℕ) (h : n < rk k) : Above n (tallyAt (kcell (c, k)) () a) := fun g u hg => by
  rw [tallyAt_apply] at hg
  by_cases hc : g = kcell (c, k) ∧ u = ()
  · rw [hc.1]; exact ⟨rfl, by rw [lv_at]; exact h⟩
  · rw [if_neg hc] at hg; exact absurd hg (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0

theorem above_O₅ (c : Dev nD) : Above 2 (O₅ c) := (above_zero 2).add (above_tally 2 _ 4 _ (by decide))
theorem above_O₄ (c : Dev nD) : Above 2 (O₄ c) := (above_O₅ c).add (above_tally 2 _ 3 _ (by decide))
theorem Above.mono {n n' : ℕ} {O : CellTallies nD τ sig Unit} (h : Above n O) (hn : n' ≤ n) : Above n' O :=
  fun g u hg => ⟨(h g u hg).1, lt_of_le_of_lt hn (h g u hg).2⟩
theorem above_O₃ (c : Dev nD) : Above 1 (O₃ c) := ((above_O₄ c).mono (by decide)).add (above_tally 1 _ 2 _ (by decide))
theorem above_O₂ (c : Dev nD) : Above 1 (O₂ c) := (above_O₃ c).add (above_tally 1 _ 1 _ (by decide))
theorem above_O₁ (c : Dev nD) : Above 0 (O₁ c) := ((above_O₂ c).mono (by decide)).add (above_tally 0 _ 0 _ (by decide))
theorem above_O₀ (c : Dev nD) : Above 0 (O₀ c) := (above_O₁ c).add (above_tally 0 _ 0 _ (by decide))

/-- A device may wait on a cell of level at most `n` while all it owes is above `n`. -/
theorem mayWait (c : Dev nD) (sm : SemLoc sig) (n : ℕ) (O : CellTallies nD τ sig Unit) (hO : Above n O) (hl : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

end Cert.RingProof

end
-- ==== Proof.Tiles.lean ====
/-
# Casting a block tile by tile

Each device copies its block of `x` (256 rows at a time) and its columns of `w` (512 rows at a time) from HBM to a
staging buffer, casts the tile to eight bits and stores it at the same rows of a block buffer. Both are stated the
same way: with the first `o` rows of the buffer the cast of the source, one tile leaves the first `o + 256` (`o + 512`)
so.
-/
module

public import proofs.«01_k».proof.Proof.Protocol

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

theorem zero2 : (![0, 0] : Fin 2 → Nat) = fun _ => 0 := funext fun a => by fin_cases a <;> rfl

theorem lv_none (c : Dev nD) (sm : SemLoc sig) (h : cidx sm = none) : lv ((c : Thread nD τ), sm) () ≤ 0 := by
  unfold lv; rw [h]; exact Nat.le_refl 0
theorem lv_stage {c : Dev nD} : lv ((c : Thread nD τ), .dma stageS) () ≤ 0 := lv_none c _ (by decide +kernel)

/-! ## The block of `x` -/

/-- Device `c`'s copy of its block of `x`, its first `n` rows the cast of its block of `x` and the rest anything. -/
def XInv (c : Dev nD) (n : ℕ) : sProp 𝕄 :=
  iprop(∃ f : Vec F S1024x4096 .fp8e4m3, ⌜∀ i, (i 0).val < n → f i = own m c i⌝ ∗ (((c : Thread nD τ).loc cc0_scratch0) ↦{fullShare} f))

section
variable (o : ℕ) (inb : ∀ a, (![o, 0] : Fin 2 → ℕ) a + S256x4096.size a ≤ S1024x4096.size a)

abbrev rX : Rect S1024x4096 := Rect.unit (s := S1024x4096) ![o, 0] S256x4096.size inb
abbrev xRows : Memref sig .tc .hbm S256x4096 .f32 := xM.slice (rX o inb) (fun _ => rfl)

omit [FloatOps F] in
/-- A row of the window is a row `o ≤ i < o + 256` of the array. -/
theorem rX_row (x : (rX o inb).shape.Idx) : ((rX o inb).emb x 0).val = o + (x 0).val := by
  show o + 1 * (x 0).val = _; omega

/-- Storing the cast of the window's rows extends the rows held by 256. -/
theorem rX_store (c : Dev nD) (f : Vec F S1024x4096 .fp8e4m3) (hf : ∀ i, (i 0).val < o → f i = own m c i)
    (pay : Vec F S256x4096 .f32 → FVec F S256x4096 .fp8e4m3) (hpay : ∀ v, pay v = truncf .fp8e4m3 v bitsLt_fp8e4m3_f32) :
    ∀ i : S1024x4096.Idx, (i 0).val < o + 256 →
      (((ownM).access (rX o inb)).write (Elt F) f (pay ((xRows o inb).view.read (Elt F) (xv m c))) Finset.univ : Vec F S1024x4096 .fp8e4m3) i = own m c i := by
  intro i hi
  by_cases hm : i ∈ (rX o inb).set
  · obtain ⟨x, rfl⟩ := LoadRect.exists_idx_of_mem _ hm
    refine ((View.write_emb_of_mem (v := (ownM).access (rX o inb)) (Val := Elt F) f _ (Finset.mem_univ x))).trans ?_
    rw [hpay]; rfl
  · refine (View.write_of_not_mem (v := (ownM).access (rX o inb)) (Val := Elt F) f _ _ (by
      rw [View.setOn_univ]
      show i ∉ ((View.whole cc0_scratch0).slice (rX o inb)).set
      rw [View.set_slice_whole]; exact hm)).trans (hf i ?_)
    by_contra hn
    refine hm (Rect.mem_set_unit.mpr (Fin.forall_fin_two.mpr ⟨⟨by show o ≤ (i 0).val; omega, hi⟩, Nat.zero_le _, ?_⟩))
    show (i 1).val < 0 + 4096
    rw [Nat.zero_add]; exact (i 1).isLt

/-- One tile: the window's rows copied to the staging buffer, cast, and stored. -/
theorem x_tile (c : Dev nD) (pay : Vec F S256x4096 .f32 → FVec F S256x4096 .fp8e4m3) (hpay : ∀ v, pay v = truncf .fp8e4m3 v bitsLt_fp8e4m3_f32)
    (O : CellTallies nD τ sig Unit) (hO : Above 0 O) (W : Waits sig Unit) {α : Type} {Q : α → sProp 𝕄}
    {k : PUnit → Prog (TpuEff nD τ sig (Elt F) Λ₀ .tc) α}
    {h1 : (xRows o inb).view.WordExact} {h2 : (xsM).view.WordExact} {h3}
    {h4 : (xRows o inb).view.WordExact} {h5 : (xsM).view.WordExact} {inb0 : ∀ a, (![0, 0] : Fin 2 → ℕ) a + S256x4096.size a ≤ S256x4096.size a}
    {h6 : (xsM).view.LoadsAt (Rect.unit (s := S256x4096) ![0, 0] S256x4096.size inb0).toLoadRect}
    {h7 : (ownM).view.LoadsAt (rX o inb).toLoadRect} {h8 : ((ownM).access (rX o inb)).Stores Finset.univ} {h9} :
    iprop(XInv m c o ∗ (∃ f, ((c : Thread nD τ).loc cc0_scratch5) ↦{fullShare} f) ∗ (((c : Thread nD τ).loc main_arg0) ↦{fullShare} xv m c)
        ∗ semVal ((c : Thread nD τ), .dma stageS) 0 ∗ owes (c : Thread nD τ) O W ∗ levAts L lv)
      ⊢ iprop((iprop(XInv m c (o + 256) ∗ (∃ f, ((c : Thread nD τ).loc cc0_scratch5) ↦{fullShare} f) ∗ (((c : Thread nD τ).loc main_arg0) ↦{fullShare} xv m c)
            ∗ semVal ((c : Thread nD τ), .dma stageS) 0 ∗ owes (c : Thread nD τ) O (insert (SemLoc.dma stageS, ()) W))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (xRows o inb) (.here xsM) (.dma stageS) h1 h2 h3) fun _ =>
            .op (.waitDma2 stageS (xRows o inb) xsM h4 h5) fun _ =>
            .op (.load xsM (Rect.unit (s := S256x4096) ![0, 0] S256x4096.size inb0).toLoadRect h6) fun v =>
            .op (.load ownM (rX o inb).toLoadRect h7) fun _ =>
            .op (.store ownM (rX o inb) (pay v) Finset.univ h8 h9) k) Q) := by
  unfold XInv
  iintro ⟨⟨%f, %hf, Hd⟩, ⟨%fd, Hst⟩, Hs, Hv, HO, #Hlev⟩ Hk
  ihave Hs' := (pointsTo_split_subset (ℓ := (c : Thread nD τ).loc main_arg0) (I := (xRows o inb).view.set) (Finset.subset_univ _)).1 $$ Hs
  icases Hs' with ⟨Hs, Hrest⟩
  iapply (Transfers.wp_dmaLocal EC 𝒱₀ (c : Thread nD τ) none (src := xRows o inb) (dst := xsM) (via := .same) () _ rfl
    (View.dmaCredit_pos _ (by decide)) (Finset.subset_univ _)) $$ [Hs Hst Hv]
  · isplitl [Hs]; · iexact Hs
    isplitl [Hst]; · iexact Hst
    iexact Hv
  iintro HF
  iapply (Transfers.wp_waitLocalO EC 𝒱₀ (c : Thread nD τ) none () rfl) $$ [HF HO]
  · isplitl [HF]; · iexact HF
    isplitl [HO]; · iexact HO
    iapply (mayWait c (.dma stageS) 0 O hO lv_stage); iexact Hlev
  iintro ⟨⟨Hst, Hs⟩, Hv, HO⟩
  ihave Hs := (pointsTo_split_subset (ℓ := (c : Thread nD τ).loc main_arg0) (I := (xRows o inb).view.set) (Finset.subset_univ _)).2 $$ [Hs Hrest]
  · isplitl [Hs] <;> iassumption
  iapply (wp_load 𝒱₀ (c : Thread nD τ) none Set.univ (m := xsM) (Finset.subset_univ _)) $$ Hst; iintro Hst
  iapply (wp_load 𝒱₀ (c : Thread nD τ) none Set.univ (m := ownM) (Finset.subset_univ _)) $$ Hd; iintro Hd
  iapply (wp_store 𝒱₀ (c : Thread nD τ) none Set.univ (m := ownM) (r := rX o inb) (Mk := Finset.univ) (Finset.subset_univ _)) $$ Hd; iintro Hd
  iapply Hk
  isplitl [Hd]
  · iexists _
    isplitr
    rotate_left
    · iexact Hd
    ipureintro
    rw [show (xsM).view.readAt (Elt F) (Rect.unit (s := S256x4096) ![0, 0] S256x4096.size inb0).toLoadRect
        ((xsM).view.write (Elt F) fd (ReadAs.same.apply ((xRows o inb).view.read (Elt F) (xv m c))) Finset.univ)
        = (xRows o inb).view.read (Elt F) (xv m c) from
      (Memref.readAt_unit_zero (Elt F) cc0_scratch5 zero2 _ _).trans (View.write_whole_univ _ _ _)]
    exact rX_store m o inb c f hf pay hpay
  isplitl [Hst]; · iexists _; iexact Hst
  isplitl [Hs]; · iexact Hs
  isplitl [Hv]; · iexact Hv
  iexact HO

end

/-! ## The columns of `w` -/

/-- Device `c`'s copy of its columns of `w`, its first `n` rows the cast of its columns of `w` and the rest anything. -/
def WInv (c : Dev nD) (n : ℕ) : sProp 𝕄 :=
  iprop(∃ f : Vec F S4096x2048 .fp8e4m3, ⌜∀ i, (i 0).val < n → f i = w8 m c i⌝ ∗ (((c : Thread nD τ).loc cc0_scratch4) ↦{fullShare} f))

section
variable (o : ℕ) (inb : ∀ a, (![o, 0] : Fin 2 → ℕ) a + S512x2048.size a ≤ S4096x2048.size a)

abbrev rW : Rect S4096x2048 := Rect.unit (s := S4096x2048) ![o, 0] S512x2048.size inb
abbrev wRows : Memref sig .tc .hbm S512x2048 .f32 := wM.slice (rW o inb) (fun _ => rfl)

omit [FloatOps F] in
/-- A row of the window is a row `o ≤ i < o + 512` of the array. -/
theorem rW_row (x : (rW o inb).shape.Idx) : ((rW o inb).emb x 0).val = o + (x 0).val := by
  show o + 1 * (x 0).val = _; omega

/-- Storing the cast of the window's rows extends the rows held by 512. -/
theorem rW_store (c : Dev nD) (f : Vec F S4096x2048 .fp8e4m3) (hf : ∀ i, (i 0).val < o → f i = w8 m c i)
    (pay : Vec F S512x2048 .f32 → FVec F S512x2048 .fp8e4m3) (hpay : ∀ v, pay v = truncf .fp8e4m3 v bitsLt_fp8e4m3_f32) :
    ∀ i : S4096x2048.Idx, (i 0).val < o + 512 →
      (((w8M).access (rW o inb)).write (Elt F) f (pay ((wRows o inb).view.read (Elt F) (wv m c))) Finset.univ : Vec F S4096x2048 .fp8e4m3) i = w8 m c i := by
  intro i hi
  by_cases hm : i ∈ (rW o inb).set
  · obtain ⟨x, rfl⟩ := LoadRect.exists_idx_of_mem _ hm
    refine ((View.write_emb_of_mem (v := (w8M).access (rW o inb)) (Val := Elt F) f _ (Finset.mem_univ x))).trans ?_
    rw [hpay]; rfl
  · refine (View.write_of_not_mem (v := (w8M).access (rW o inb)) (Val := Elt F) f _ _ (by
      rw [View.setOn_univ]
      show i ∉ ((View.whole cc0_scratch4).slice (rW o inb)).set
      rw [View.set_slice_whole]; exact hm)).trans (hf i ?_)
    by_contra hn
    refine hm (Rect.mem_set_unit.mpr (Fin.forall_fin_two.mpr ⟨⟨by show o ≤ (i 0).val; omega, hi⟩, Nat.zero_le _, ?_⟩))
    show (i 1).val < 0 + 2048
    rw [Nat.zero_add]; exact (i 1).isLt

/-- One tile: the window's rows copied to the staging buffer, cast, and stored. -/
theorem w_tile (c : Dev nD) (pay : Vec F S512x2048 .f32 → FVec F S512x2048 .fp8e4m3) (hpay : ∀ v, pay v = truncf .fp8e4m3 v bitsLt_fp8e4m3_f32)
    (O : CellTallies nD τ sig Unit) (hO : Above 0 O) (W : Waits sig Unit) {α : Type} {Q : α → sProp 𝕄}
    {k : PUnit → Prog (TpuEff nD τ sig (Elt F) Λ₀ .tc) α}
    {h1 : (wRows o inb).view.WordExact} {h2 : (wsM).view.WordExact} {h3}
    {h4 : (wRows o inb).view.WordExact} {h5 : (wsM).view.WordExact} {inb0 : ∀ a, (![0, 0] : Fin 2 → ℕ) a + S512x2048.size a ≤ S512x2048.size a}
    {h6 : (wsM).view.LoadsAt (Rect.unit (s := S512x2048) ![0, 0] S512x2048.size inb0).toLoadRect}
    {h7 : (w8M).view.LoadsAt (rW o inb).toLoadRect} {h8 : ((w8M).access (rW o inb)).Stores Finset.univ} {h9} :
    iprop(WInv m c o ∗ (∃ f, ((c : Thread nD τ).loc cc0_scratch6) ↦{fullShare} f) ∗ (((c : Thread nD τ).loc main_arg1) ↦{fullShare} wv m c)
        ∗ semVal ((c : Thread nD τ), .dma stageS) 0 ∗ owes (c : Thread nD τ) O W ∗ levAts L lv)
      ⊢ iprop((iprop(WInv m c (o + 512) ∗ (∃ f, ((c : Thread nD τ).loc cc0_scratch6) ↦{fullShare} f) ∗ (((c : Thread nD τ).loc main_arg1) ↦{fullShare} wv m c)
            ∗ semVal ((c : Thread nD τ), .dma stageS) 0 ∗ owes (c : Thread nD τ) O (insert (SemLoc.dma stageS, ()) W))
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (wRows o inb) (.here wsM) (.dma stageS) h1 h2 h3) fun _ =>
            .op (.waitDma2 stageS (wRows o inb) wsM h4 h5) fun _ =>
            .op (.load wsM (Rect.unit (s := S512x2048) ![0, 0] S512x2048.size inb0).toLoadRect h6) fun v =>
            .op (.load w8M (rW o inb).toLoadRect h7) fun _ =>
            .op (.store w8M (rW o inb) (pay v) Finset.univ h8 h9) k) Q) := by
  unfold WInv
  iintro ⟨⟨%f, %hf, Hd⟩, ⟨%fd, Hst⟩, Hs, Hv, HO, #Hlev⟩ Hk
  ihave Hs' := (pointsTo_split_subset (ℓ := (c : Thread nD τ).loc main_arg1) (I := (wRows o inb).view.set) (Finset.subset_univ _)).1 $$ Hs
  icases Hs' with ⟨Hs, Hrest⟩
  iapply (Transfers.wp_dmaLocal EC 𝒱₀ (c : Thread nD τ) none (src := wRows o inb) (dst := wsM) (via := .same) () _ rfl
    (View.dmaCredit_pos _ (by decide)) (Finset.subset_univ _)) $$ [Hs Hst Hv]
  · isplitl [Hs]; · iexact Hs
    isplitl [Hst]; · iexact Hst
    iexact Hv
  iintro HF
  iapply (Transfers.wp_waitLocalO EC 𝒱₀ (c : Thread nD τ) none () rfl) $$ [HF HO]
  · isplitl [HF]; · iexact HF
    isplitl [HO]; · iexact HO
    iapply (mayWait c (.dma stageS) 0 O hO lv_stage); iexact Hlev
  iintro ⟨⟨Hst, Hs⟩, Hv, HO⟩
  ihave Hs := (pointsTo_split_subset (ℓ := (c : Thread nD τ).loc main_arg1) (I := (wRows o inb).view.set) (Finset.subset_univ _)).2 $$ [Hs Hrest]
  · isplitl [Hs] <;> iassumption
  iapply (wp_load 𝒱₀ (c : Thread nD τ) none Set.univ (m := wsM) (Finset.subset_univ _)) $$ Hst; iintro Hst
  iapply (wp_load 𝒱₀ (c : Thread nD τ) none Set.univ (m := w8M) (Finset.subset_univ _)) $$ Hd; iintro Hd
  iapply (wp_store 𝒱₀ (c : Thread nD τ) none Set.univ (m := w8M) (r := rW o inb) (Mk := Finset.univ) (Finset.subset_univ _)) $$ Hd; iintro Hd
  iapply Hk
  isplitl [Hd]
  · iexists _
    isplitr
    rotate_left
    · iexact Hd
    ipureintro
    rw [show (wsM).view.readAt (Elt F) (Rect.unit (s := S512x2048) ![0, 0] S512x2048.size inb0).toLoadRect
        ((wsM).view.write (Elt F) fd (ReadAs.same.apply ((wRows o inb).view.read (Elt F) (wv m c))) Finset.univ)
        = (wRows o inb).view.read (Elt F) (wv m c) from
      (Memref.readAt_unit_zero (Elt F) cc0_scratch6 zero2 _ _).trans (View.write_whole_univ _ _ _)]
    exact rW_store m o inb c f hf pay hpay
  isplitl [Hst]; · iexists _; iexact Hst
  isplitl [Hs]; · iexact Hs
  isplitl [Hv]; · iexact Hv
  iexact HO

end

end Cert.RingProof

end
-- ==== Proof.Emit.lean ====
/-
# Writing the result out

A device has two output slots. A block of the result is stored in a slot and copied from there to the rows of the
result that its block of `x` gives; the slot is taken again only after its copy has been waited for.
-/
module

public import proofs.«01_k».proof.Proof.Tiles
public import Idealize.ShloMosaic.Lib.ViewIndex

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The output rows and the two output slots -/

/-- The rows of the result that device `o`'s block of `x` gives; -/
def rowsOf (o : Dev nD) : Finset S4096x2048.Idx := Finset.univ.filter fun i => (i 0).val / 1024 = o.val
/-- the elements of one of the two output slots. -/
def slotOf (s : Fin 2) : Finset S2x1024x2048.Idx := Finset.univ.filter fun i => (i 0).val = s.val

section
variable (off : Fin 2 → ℕ) (inb : ∀ a, off a + S1024x2048.size a ≤ S4096x2048.size a)

abbrev rOut : Rect S4096x2048 := Rect.unit (s := S4096x2048) off S1024x2048.size inb
abbrev outRows : Memref sig .tc .hbm S1024x2048 .f32 := outM.slice (rOut off inb) (fun _ => rfl)

/-- The rows written at offset `1024 · o` are those of device `o`. -/
theorem outRows_set (o : Dev nD) (ho : off = ![1024 * o.val, 0]) : (outRows off inb).view.set = rowsOf o := by
  subst ho
  show ((View.whole main_v1).slice (rOut _ inb)).set = _
  rw [View.set_slice_whole]
  ext i
  refine Rect.mem_set_unit.trans (Fin.forall_fin_two.trans ?_)
  have h1 : (i 1).val < 2048 := (i 1).isLt
  unfold rowsOf
  rw [Finset.mem_filter]
  show (1024 * o.val ≤ (i 0).val ∧ (i 0).val < 1024 * o.val + 1024) ∧ (0 ≤ (i 1).val ∧ (i 1).val < 0 + 2048) ↔ _
  constructor
  · rintro ⟨⟨h, h'⟩, -⟩; exact ⟨Finset.mem_univ _, by omega⟩
  · rintro ⟨-, h⟩; exact ⟨⟨by omega, by omega⟩, Nat.zero_le _, by omega⟩

end

section
variable (s : ℕ) (inb : ∀ a, (![s, 0, 0] : Fin 3 → ℕ) a + S1x1024x2048.size a ≤ S2x1024x2048.size a)

abbrev rSlot : Rect S2x1024x2048 := Rect.unit (s := S2x1024x2048) ![s, 0, 0] S1x1024x2048.size inb
abbrev slot3 : Memref sig .tc .vmem S1x1024x2048 .f32 := osM.slice (rSlot s inb) (fun _ => rfl)
abbrev slot : Memref sig .tc .vmem S1024x2048 .f32 := (slot3 s inb).squeeze S1024x2048 squeezes_S1x1024x2048_S1024x2048

theorem slot3_set (k : Fin 2) (hk : k.val = s) : (slot3 s inb).view.set = slotOf k := by
  subst hk
  show ((View.whole cc0_scratch7).slice (rSlot _ inb)).set = _
  rw [View.set_slice_whole]
  ext i
  rw [Rect.mem_set_unit]
  have h1 : (i 1).val < 1024 := (i 1).isLt
  have h2 : (i 2).val < 2048 := (i 2).isLt
  unfold slotOf
  rw [Finset.mem_filter]
  constructor
  · intro h
    have h0 : k.val ≤ (i 0).val ∧ (i 0).val < k.val + 1 := h 0
    exact ⟨Finset.mem_univ _, by omega⟩
  · rintro ⟨-, h⟩ a
    match a with
    | ⟨0, _⟩ => exact (show k.val ≤ (i 0).val ∧ (i 0).val < k.val + 1 from ⟨by omega, by omega⟩)
    | ⟨1, _⟩ => exact (show 0 ≤ (i 1).val ∧ (i 1).val < 0 + 1024 from ⟨Nat.zero_le _, by omega⟩)
    | ⟨2, _⟩ => exact (show 0 ≤ (i 2).val ∧ (i 2).val < 0 + 2048 from ⟨Nat.zero_le _, by omega⟩)
theorem slot_set (k : Fin 2) (hk : k.val = s) : (slot s inb).view.set = slotOf k :=
  (View.set_reshape _ _).trans (slot3_set s inb k hk)

/-- The slot read after a block is stored in it: the block. -/
theorem slot_read (f : Vec F S2x1024x2048 .f32) (y : FVec F S1024x2048 .f32) :
    (slot s inb).view.read (Elt F) (((osM).access (rSlot s inb)).write (Elt F) f (shapeCast S1x1024x2048 y shapeCasts_S1024x2048_S1x1024x2048) Finset.univ) = y := by
  have h : (slot3 s inb).view.read (Elt F) (((osM).access (rSlot s inb)).write (Elt F) f (shapeCast S1x1024x2048 y shapeCasts_S1024x2048_S1x1024x2048) Finset.univ)
      = shapeCast S1x1024x2048 y shapeCasts_S1024x2048_S1x1024x2048 := View.read_write_univ _ _
  have h' : (slot s inb).view.read (Elt F) (((osM).access (rSlot s inb)).write (Elt F) f (shapeCast S1x1024x2048 y shapeCasts_S1024x2048_S1x1024x2048) Finset.univ)
      = shapeCast S1024x2048 ((slot3 s inb).view.read (Elt F) (((osM).access (rSlot s inb)).write (Elt F) f (shapeCast S1x1024x2048 y shapeCasts_S1024x2048_S1x1024x2048) Finset.univ)) (by decide) := rfl
  rw [h', h]
  funext x
  show y (Shape.reshapeEquiv _ (Shape.reshapeEquiv _ x)) = y x
  congr 1
  exact (Shape.reshapeEquiv_reshapeEquiv _ _ x).trans (Shape.reshapeEquiv_self _ x)
end

/-! ## The result a device holds -/

/-- One block of the result: the block of `x` times the columns of `w`, scaled, and `y · logistic y` of that. -/
def act (s : F .f32) (x : Vec F S1024x4096 .fp8e4m3) (w : Vec F S4096x2048 .fp8e4m3) : FVec F S1024x2048 .f32 :=
  let y := mulf (matmul dot_S1024x4096_S4096x2048_S1024x2048_1_0_0_1_n_n none x w (constant S1024x2048 .f32 0x00000000#32)) (broadcast S1024x2048 s)
  mulf y (logistic y)

/-- The one index of a scale. -/
abbrev ix1 : S1.Idx := Shape.Idx.first (s := S1) (by decide)
/-- The two scales' product as device `c` reads it. -/
def scale (c : Dev nD) : F .f32 :=
  Scalar.mulf ((m ((c : Thread nD τ).loc main_arg2) : Vec F S1 .f32) ix1) ((m ((c : Thread nD τ).loc main_arg3) : Vec F S1 .f32) ix1)

/-- The block of device `c`'s result that device `o`'s block of `x` gives. -/
def outBlock (c o : Dev nD) : FVec F S1024x2048 .f32 := act (scale m c) (own m o) (w8 m c)

set_option backward.proofsInPublic true in
/-- Device `c`'s result, its rows in four blocks, one from each device's block of `x`. -/
def out (c : Dev nD) : Vec F S4096x2048 .f32 := fun i =>
  outBlock m c ⟨(i 0).val / 1024, by have : (i 0).val < 4096 := (i 0).isLt; show _ < 4; omega⟩
    (Fin.cons (⟨(i 0).val % 1024, Nat.mod_lt _ (by decide)⟩ : Fin 1024) (Fin.cons (i 1) finZeroElim))

/-- A block written at its rows is those rows of the result. -/
theorem out_write (off : Fin 2 → ℕ) (inb : ∀ a, off a + S1024x2048.size a ≤ S4096x2048.size a) (c o : Dev nD) (ho : off = ![1024 * o.val, 0])
    (fd : Vec F S4096x2048 .f32) :
    ∀ i ∈ rowsOf o, ((outRows off inb).view.write (Elt F) fd (outBlock m c o) Finset.univ : Vec F S4096x2048 .f32) i = out m c i := by
  intro i hi
  rw [← outRows_set off inb o ho] at hi
  obtain ⟨x, rfl⟩ := View.exists_of_mem_set_slice hi
  refine (View.write_emb_of_mem (v := (outRows off inb).view) (Val := Elt F) fd _ (Finset.mem_univ x)).trans ?_
  subst ho
  have e0 : ((View.whole main_v1).emb ((rOut _ inb).emb x) 0).val = 1024 * o.val + (x 0).val := by
    show 1024 * o.val + 1 * (x 0).val = _; omega
  have e1 : ((View.whole main_v1).emb ((rOut _ inb).emb x) 1).val = (x 1).val := by
    show 0 + 1 * (x 1).val = _; omega
  have hx : (x 0).val < 1024 := (x 0).isLt
  unfold out
  have ho' : (⟨((View.whole main_v1).emb ((rOut _ inb).emb x) 0).val / 1024, by rw [e0]; have h : o.val < 4 := o.isLt; show _ < 4; omega⟩ : Dev nD) = o :=
    Fin.ext (by show _ / 1024 = _; rw [e0]; omega)
  show outBlock m c o x = outBlock m c _ _
  refine congr (congrArg (outBlock m c) ho'.symm) (funext fun a => ?_)
  match a with
  | ⟨0, _⟩ => exact Fin.ext (by show (x 0).val = _ % 1024; rw [e0]; omega)
  | ⟨1, _⟩ => exact Fin.ext e1.symm

/-! ## One output step -/

/-- What an output transfer signals. -/
abbrev No : ℕ := (outRows (k0_off1 0) (k0_off1_inb 0)).view.dmaCredit

/-- A block of the result on its way out: its rows of the result at the wait, and the slot back. -/
def Out (c : Dev nD) (sm : DmaSem sig) (k : Fin 2) (o : Dev nD) : sProp 𝕄 :=
  Transfers.Flight EC (c : Thread nD τ) (.dma sm) () No
    iprop((((c : Thread nD τ).loc main_v1) ↦[rowsOf o]{fullShare} out m c)
      ∗ ∃ f : Vec F S2x1024x2048 .f32, ((c : Thread nD τ).loc cc0_scratch7) ↦[slotOf k]{fullShare} f)

/-- One step: a block stored in a slot and its transfer to its rows started. -/
theorem emit (c o : Dev nD) (off : Fin 2 → ℕ) (inb : ∀ a, off a + S1024x2048.size a ≤ S4096x2048.size a) (ho : off = ![1024 * o.val, 0])
    (s : ℕ) (inbs : ∀ a, (![s, 0, 0] : Fin 3 → ℕ) a + S1x1024x2048.size a ≤ S2x1024x2048.size a) (k : Fin 2) (hk : k.val = s) (sm : DmaSem sig)
    (P : FVec F S1x1024x2048 .f32) (hP : P = shapeCast S1x1024x2048 (outBlock m c o) shapeCasts_S1024x2048_S1x1024x2048)
    {α : Type} {Q : α → sProp 𝕄} {kk : PUnit → Prog (TpuEff nD τ sig (Elt F) Λ₀ .tc) α}
    {h1 : (osM).view.LoadsAt (rSlot s inbs).toLoadRect} {h2 : ((osM).access (rSlot s inbs)).Stores Finset.univ} {h3}
    {h4 : (slot s inbs).view.WordExact} {h5 : (outRows off inb).view.WordExact} {h6} :
    iprop((∃ f : Vec F S2x1024x2048 .f32, ((c : Thread nD τ).loc cc0_scratch7) ↦[slotOf k]{fullShare} f)
        ∗ (∃ f : Vec F S4096x2048 .f32, ((c : Thread nD τ).loc main_v1) ↦[rowsOf o]{fullShare} f) ∗ semVal ((c : Thread nD τ), .dma sm) 0)
      ⊢ iprop((Out m c sm k o -∗ wp frame (wpE (defs₀ (F := F)) 𝒱₀ (c : Thread nD τ) none) Set.univ (kk ⟨⟩) Q)
        -∗ wp frame (wpE (defs₀ (F := F)) 𝒱₀ (c : Thread nD τ) none) Set.univ
          (.op (.load osM (rSlot s inbs).toLoadRect h1) fun _ =>
            .op (.store osM (rSlot s inbs) P Finset.univ h2 h3) fun _ =>
            .op (.enqueueDma (slot s inbs) (.here (outRows off inb)) (.dma sm) h4 h5 h6) kk) Q) := by
  have hset : (osM).view.setOn (rSlot s inbs).set ⊆ slotOf k := by
    rw [← slot3_set s inbs k hk, show (slot3 s inbs).view.set = _ from View.set_slice _ _]; exact fun _ h => h
  iintro ⟨⟨%f, Hs⟩, ⟨%fd, Ho⟩, Hv⟩ Hk
  iapply (wp_load 𝒱₀ (c : Thread nD τ) none Set.univ (m := osM) (r := (rSlot s inbs).toLoadRect) hset) $$ Hs; iintro Hs
  iapply (wp_store 𝒱₀ (c : Thread nD τ) none Set.univ (m := osM) (r := rSlot s inbs) (Mk := Finset.univ) (by
    rw [View.setOn_univ]; exact (slot3_set s inbs k hk).le)) $$ Hs; iintro Hs
  rw [← slot_set s inbs k hk]
  iapply (Transfers.wp_dmaLocal EC 𝒱₀ (c : Thread nD τ) none (src := slot s inbs) (dst := outRows off inb) (via := .same) () No rfl
    (View.dmaCredit_pos _ (by decide)) (outRows_set off inb o ho).le) $$ [Hs Ho Hv]
  · isplitl [Hs]; · iexact Hs
    isplitl [Ho]; · iexact Ho
    iexact Hv
  iintro HF
  iapply Hk
  unfold Out
  iapply (Transfers.Flight_mono EC ?_) $$ HF
  rw [hP]
  iintro ⟨Ho, Hs⟩
  isplitl [Ho]
  · rw [show (ReadAs.same.apply ((slot s inbs).view.read (Elt F) (((osM).access (rSlot s inbs)).write (Elt F) f (shapeCast S1x1024x2048 (outBlock m c o) shapeCasts_S1024x2048_S1x1024x2048) Finset.univ)))
      = outBlock m c o from slot_read s inbs f _]
    rw [show (((c : Thread nD τ).loc main_v1) ↦[rowsOf o]{fullShare} out m c : sProp 𝕄)
      = (((c : Thread nD τ).loc main_v1) ↦[rowsOf o]{fullShare} ((outRows off inb).view.write (Elt F) fd (outBlock m c o) Finset.univ))
      from (pointsTo_congr (out_write m off inb c o ho fd)).symm]
    iexact Ho
  · iexists _
    rw [← slot_set s inbs k hk]
    iexact Hs

/-- Its wait. -/
theorem emit_wait (c o : Dev nD) (off : Fin 2 → ℕ) (inb : ∀ a, off a + S1024x2048.size a ≤ S4096x2048.size a)
    (s : ℕ) (inbs : ∀ a, (![s, 0, 0] : Fin 3 → ℕ) a + S1x1024x2048.size a ≤ S2x1024x2048.size a) (k : Fin 2) (sm : DmaSem sig) (W : Waits sig Unit)
    {α : Type} {Q : α → sProp 𝕄} {kk : PUnit → Prog (TpuEff nD τ sig (Elt F) Λ₀ .tc) α}
    {h4 : (slot s inbs).view.WordExact} {h5 : (outRows off inb).view.WordExact} :
    iprop(Out m c sm k o ∗ owes (c : Thread nD τ) 0 W)
      ⊢ iprop((iprop((((c : Thread nD τ).loc main_v1) ↦[rowsOf o]{fullShare} out m c)
            ∗ (∃ f : Vec F S2x1024x2048 .f32, ((c : Thread nD τ).loc cc0_scratch7) ↦[slotOf k]{fullShare} f)
            ∗ semVal ((c : Thread nD τ), .dma sm) 0 ∗ owes (c : Thread nD τ) 0 (insert (SemLoc.dma sm, ()) W))
          -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm (slot s inbs) (outRows off inb) h4 h5) kk) Q) := by
  unfold Out
  iintro ⟨HF, HO⟩ Hk
  iapply (Transfers.wp_waitLocal EC 𝒱₀ (c : Thread nD τ) none () (dstw := outRows off inb) (N := No) rfl) $$ [HF HO]
  · isplitl [HF]; · iexact HF
    iexact HO
  iintro ⟨⟨Ho, Hs⟩, Hv, HO⟩
  iapply Hk
  isplitl [Ho]; · iexact Ho
  isplitl [Hs]; · iexact Hs
  isplitl [Hv]; · iexact Hv
  iexact HO

end Cert.RingProof

end
-- ==== Proof.Sends.lean ====
/-
# Transfers between devices

A transfer to a neighbour pays two duties: the sender's own send cell's, with the share of the source it borrowed, and
the neighbour's receive cell's, with what landed. A device waiting on one of its cells takes what the duty handed over.
-/
module

public import proofs.«01_k».proof.Proof.Emit

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The records every device holds -/

/-- Every ring cell's invariant, and that each is at its one round. -/
def records (K : Dev nD × Fin 9 → ℕ) : sProp 𝕄 :=
  iprop((bigSep Finset.univ fun ck : Dev nD × Fin 9 => cellInv ER (Rd m) (K ck) (kcell ck))
    ∗ bigSep Finset.univ fun ck : Dev nD × Fin 9 => reached ER (kcell ck) 0)

instance records_persistent (K : Dev nD × Fin 9 → ℕ) : BI.Persistent (records m K) := by unfold records; infer_instance

theorem inv_at (K : Dev nD × Fin 9 → ℕ) (ck : Dev nD × Fin 9) : records m K ⊢ cellInv ER (Rd m) (K ck) (kcell ck) := by
  have h : (bigSep Finset.univ fun ck : Dev nD × Fin 9 => (cellInv ER (Rd m) (K ck) (kcell ck) : sProp 𝕄)) ⊢ cellInv ER (Rd m) (K ck) (kcell ck) :=
    bigSep_elim (Finset.mem_univ ck)
  unfold records
  iintro ⟨H, -⟩
  iapply h; iexact H
theorem reached_at (K : Dev nD × Fin 9 → ℕ) (ck : Dev nD × Fin 9) : records m K ⊢ reached ER (kcell ck) 0 := by
  have h : (bigSep Finset.univ fun ck : Dev nD × Fin 9 => (reached ER (kcell ck) 0 : sProp 𝕄)) ⊢ reached ER (kcell ck) 0 :=
    bigSep_elim (Finset.mem_univ ck)
  unfold records
  iintro ⟨-, H⟩
  iapply h; iexact H

/-! ## A transfer to a neighbour, and the waits -/

section
variable (K : Dev nD × Fin 9 → ℕ)

/-- A transfer from device `c` to device `d` (named `n` in the program): its two duties paid, the send credit gained. -/
theorem ring_send (c n d : Dev nD) (hn : n = d) (ks kr : Fin 9) {sS sR : DmaSem sig} (hS : csem ks = .dma sS) (hR : csem kr = .dma sR)
    {s : Shape} {e : EltTy} {src dst : Memref sig .tc .vmem s e} (q : PosShare TreeShare)
    (f : Buf (Elt F) (src.view.loc (c : Thread nD τ))) (fd : Buf (Elt F) (dst.view.loc (d : Thread nD τ)))
    (hNs : amt ks = dst.view.dmaCredit) (hNr : amt kr = dst.view.dmaCredit)
    (hp₁ : (src.view.loc (c : Thread nD τ) ↦[src.view.set]{q} f : sProp 𝕄) ⊢ pay m c ks true)
    (hp₂ : (dst.view.loc (d : Thread nD τ) ↦[dst.view.set]{fullShare} (dst.view.write (Elt F) fd (src.view.read (Elt F) f) Finset.univ) : sProp 𝕄) ⊢ pay m d kr true)
    (O O' : CellTallies nD τ sig Unit) (hO : O' = O + tallyAt (kcell (d, kr)) () (amt kr)) (W : Waits sig Unit)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records m K ∗ (src.view.loc (c : Thread nD τ) ↦[src.view.set]{q} f) ∗ (dst.view.loc (d : Thread nD τ) ↦[dst.view.set]{fullShare} fd)
        ∗ owes (c : Thread nD τ) O' W ∗ dutyTok ER (kcell (c, ks)) 0 true ∗ dutyTok ER (kcell (d, kr)) 0 true)
      ⊢ iprop((iprop(cred (tallyAt (kcell (c, ks)) () (amt ks)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hO
  have e₁ : kcell (c, ks) = ((c : Thread nD τ), SemLoc.dma sS) := Prod.ext rfl hS
  have e₂ : kcell (n, kr) = ((n : Thread nD τ), SemLoc.dma sR) := Prod.ext rfl hR
  have hd₁ := mem_dut_true (F := F) m c ks
  have hd₂ := mem_dut_true (F := F) m n kr
  have ha₁ := (amount_at (F := F) m c ks true).trans hNs
  have ha₂ := (amount_at (F := F) m n kr true).trans hNr
  rw [← payload_at m c ks true] at hp₁
  rw [← payload_at m n kr true] at hp₂
  have hi₁ := inv_at (F := F) m K (c, ks)
  have hi₂ := inv_at (F := F) m K (n, kr)
  have hr₁ := reached_at (F := F) m K (c, ks)
  have hr₂ := reached_at (F := F) m K (n, kr)
  rw [e₁] at hd₁ ha₁ hp₁ hi₁ hr₁ ⊢
  rw [e₂] at hd₂ ha₂ hp₂ hi₂ hr₂ ⊢
  rw [hNs, hNr]
  iintro ⟨#HR, Hs, Hd, HO, Ht₁, Ht₂⟩ Hk
  iapply (Rounds.wp_send_pointsTo 𝒱₀ ER (Rd m) (c : Thread nD τ) none (κ₁ := K (c, ks)) (κ₂ := K (n, kr)) (r₁ := 0) (r₂ := 0) (d₁ := true) (d₂ := true) (fd := fd)
    hd₁ hd₂ () () dst.view.dmaCredit rfl ha₁ ha₂ O rfl (W := W) hp₁ hp₂) $$ [Hs Hd HO Ht₁ Ht₂]
  · isplitr; · iapply hi₁; iexact HR
    isplitr; · iapply hi₂; iexact HR
    isplitl [Hs]; · iexact Hs
    isplitl [Hd]; · iexact Hd
    isplitl [HO]; · iexact HO
    isplitl [Ht₁]; · iexact Ht₁
    isplitr; · iapply hr₁; iexact HR
    isplitl [Ht₂]; · iexact Ht₂
    iapply hr₂; iexact HR
  iexact Hk

/-- The wait on a ring cell that carries transfers: what its one duty hands over, and the counter back at zero. -/
theorem ring_wait (c : Dev nD) (kk : Fin 9) (hk0 : kk ≠ 0) {sm : DmaSem sig} (hS : csem kk = .dma sm) (n : ℕ) (O : CellTallies nD τ sig Unit) (hO : Above n O) (hl : rk kk ≤ n) (W : Waits sig Unit)
    {sp sp' : Space} {s s' : Shape} {e e' : EltTy} {src : Memref sig .tc sp' s' e'} {dst : Memref sig .tc sp s e} (hN : amt kk = dst.view.dmaCredit)
    {hsrc : src.view.WordExact} {hdst : dst.view.WordExact}
    {α : Type} {Q : α → sProp 𝕄} {k : PUnit → Prog (TpuEff nD τ sig (Elt F) Λ₀ .tc) α} :
    iprop(records m K ∗ levAts L lv ∗ cred (tallyAt (kcell (c, kk)) () (amt kk)) ∗ owes (c : Thread nD τ) O W ∗ atPos ER (kcell (c, kk)) 0 ∅ 0)
      ⊢ iprop((iprop(pay m c kk true ∗ semVal (kcell (c, kk)) 0 ∗ owes (c : Thread nD τ) O (insert (SemLoc.dma sm, ()) W))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  have e₁ : kcell (c, kk) = ((c : Thread nD τ), SemLoc.dma sm) := Prod.ext rfl hS
  have hexp := (expect_at (F := F) m c kk hk0).trans hN
  have hrest := rest_at (F := F) m c kk hk0
  have hi := inv_at (F := F) m K (c, kk)
  have hlv : lv (kcell (c, kk)) () ≤ n := by rw [lv_at]; exact hl
  rw [e₁] at hexp hrest hi hlv ⊢
  rw [hN]
  iintro ⟨#HR, #Hlev, Hc, HO, Hat⟩ Hk
  iapply (Rounds.wp_wait_rest_token 𝒱₀ ER (Rd m) (c : Thread nD τ) none (κ := K (c, kk)) (wpE_waitDma2_eq 𝒱₀ (c : Thread nD τ) none Set.univ) (Set.mem_univ _) ()
    (O := O) (W := W) (R := 0) (m := 0) (T := ∅) (by rw [Nat.zero_add, hexp])) $$ [Hc HO Hat]
  · isplitr; · iapply hi; iexact HR
    isplitl [Hc]; · iexact Hc
    isplitl [HO]; · iexact HO
    isplitr; · iapply (mayWait c (.dma sm) n O hO hlv); iexact Hlev
    iexact Hat
  iintro ⟨HO, Hat, -, Hpay⟩
  imod (Rounds.cell_close ER (Rd m) (Set.mem_univ (K (c, kk))) (fun h => h) (R := 0 + 1) (duties_later m ((c : Thread nD τ), SemLoc.dma sm))) $$ [Hat] with Hz
  · isplitr; · iapply hi; iexact HR
    iexact Hat
  ihave Hpay := (Entails.of_eq hrest) $$ Hpay
  iapply Hk
  isplitl [Hpay]; · iexact Hpay
  isplitl [Hz]; · iexact Hz
  iexact HO

end

/-! ## What lands -/

theorem land_cl (c : Dev nD) (fd : Buf (Elt F) (clM.view.loc (nxt c : Thread nD τ))) :
    (clM.view.loc (nxt c : Thread nD τ) ↦[clM.view.set]{fullShare} (clM.view.write (Elt F) fd (ownM.view.read (Elt F) (own m c)) Finset.univ) : sProp 𝕄) ⊢ pay m (nxt c) 1 true := by
  refine Entails.of_eq ?_
  rw [show clM.view.write (Elt F) fd (ownM.view.read (Elt F) (own m c)) Finset.univ = own m (prv (nxt c)) from by
    rw [prv_nxt]; exact View.write_whole_univ _ _ _]
  rfl
theorem land_cr (c : Dev nD) (fd : Buf (Elt F) (crM.view.loc (prv c : Thread nD τ))) :
    (crM.view.loc (prv c : Thread nD τ) ↦[crM.view.set]{fullShare} (crM.view.write (Elt F) fd (ownM.view.read (Elt F) (own m c)) Finset.univ) : sProp 𝕄) ⊢ pay m (prv c) 2 true := by
  refine Entails.of_eq ?_
  rw [show crM.view.write (Elt F) fd (ownM.view.read (Elt F) (own m c)) Finset.univ = own m (nxt (prv c)) from by
    rw [nxt_prv]; exact View.write_whole_univ _ _ _]
  rfl

/-- The half block forwarded lands at the same rows. -/
theorem land_top (c : Dev nD) (fd : Buf (Elt F) (opTop.view.loc (nxt c : Thread nD τ))) :
    (opTop.view.loc (nxt c : Thread nD τ) ↦[opTop.view.set]{fullShare} (opTop.view.write (Elt F) fd (clTop.view.read (Elt F) (own m (prv c))) Finset.univ) : sProp 𝕄) ⊢ pay m (nxt c) 3 true := by
  show _ ⊢ half opTop (nxt c) fullShare (own m (opp (nxt c)))
  refine Entails.of_eq (pointsTo_congr fun i hi => ?_)
  obtain ⟨x, rfl⟩ := View.exists_of_mem_set_slice hi
  rw [opp_nxt]
  exact View.write_emb_of_mem (v := opTop.view) (Val := Elt F) fd _ (Finset.mem_univ x)
theorem land_bot (c : Dev nD) (fd : Buf (Elt F) (opBot.view.loc (prv c : Thread nD τ))) :
    (opBot.view.loc (prv c : Thread nD τ) ↦[opBot.view.set]{fullShare} (opBot.view.write (Elt F) fd (crBot.view.read (Elt F) (own m (nxt c))) Finset.univ) : sProp 𝕄) ⊢ pay m (prv c) 4 true := by
  show _ ⊢ half opBot (prv c) fullShare (own m (opp (prv c)))
  refine Entails.of_eq (pointsTo_congr fun i hi => ?_)
  obtain ⟨x, rfl⟩ := View.exists_of_mem_set_slice hi
  rw [opp_prv]
  exact View.write_emb_of_mem (v := opBot.view) (Val := Elt F) fd _ (Finset.mem_univ x)

end Cert.RingProof

end
-- ==== Proof.Parts.lean ====
/-
# Buffers held in parts

The result array is four blocks of rows, one per step; the output buffer two slots; the opposite block two halves that
arrive separately; a block that is forwarded is lent at one share and read at another.
-/
module

public import proofs.«01_k».proof.Proof.Sends

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A buffer held in parts by contents' rows -/

/-- A points-to over a set of elements that is everything is the whole buffer's. -/
theorem blk_cl (c : Dev nD) (q : PosShare TreeShare) (f : Buf (Elt F) (clM.view.loc (c : Thread nD τ))) :
    (blk clM c q f : sProp 𝕄) = (((c : Thread nD τ).loc cc0_scratch1) ↦{q} f) := by
  unfold blk; rw [View.set_whole]
theorem blk_cr (c : Dev nD) (q : PosShare TreeShare) (f : Buf (Elt F) (crM.view.loc (c : Thread nD τ))) :
    (blk crM c q f : sProp 𝕄) = (((c : Thread nD τ).loc cc0_scratch2) ↦{q} f) := by
  unfold blk; rw [View.set_whole]
theorem blk_own (c : Dev nD) (q : PosShare TreeShare) (f : Buf (Elt F) (ownM.view.loc (c : Thread nD τ))) :
    (blk ownM c q f : sProp 𝕄) = (((c : Thread nD τ).loc cc0_scratch0) ↦{q} f) := by
  unfold blk; rw [View.set_whole]

/-! ### The result's four blocks of rows -/

theorem rowsOf_disjoint : ∀ o ∈ (Finset.univ : Finset (Dev nD)), ∀ o' ∈ (Finset.univ : Finset (Dev nD)), o ≠ o' → Disjoint (rowsOf o) (rowsOf o') := by
  intro o _ o' _ h
  refine Finset.disjoint_left.mpr fun i hi hi' => h (Fin.ext ?_)
  unfold rowsOf at hi hi'
  exact (Finset.mem_filter.mp hi).2.symm.trans (Finset.mem_filter.mp hi').2
theorem rowsOf_cover : (Finset.univ : Finset (Dev nD)).biUnion rowsOf = Finset.univ := by
  refine Finset.eq_univ_iff_forall.mpr fun i => Finset.mem_biUnion.mpr ?_
  have h : (i 0).val < 4096 := (i 0).isLt
  exact ⟨⟨(i 0).val / 1024, by show _ < 4; omega⟩, Finset.mem_univ _, by unfold rowsOf; exact Finset.mem_filter.mpr ⟨Finset.mem_univ _, rfl⟩⟩

/-- The devices, listed from a device round the ring. -/
theorem devs_nodup (c : Dev nD) : [c, prv c, nxt c, opp c].Nodup := by revert c; decide
theorem devs_complete (c : Dev nD) : (Finset.univ : Finset (Dev nD)) = [c, prv c, nxt c, opp c].toFinset := by revert c; decide

/-- The result array is its four blocks of rows. -/
theorem out_rows (c : Dev nD) (f : Vec F S4096x2048 .f32) :
    (((c : Thread nD τ).loc main_v1 ↦{fullShare} f : sProp 𝕄)) = iprop(((c : Thread nD τ).loc main_v1 ↦[rowsOf c]{fullShare} f)
      ∗ ((c : Thread nD τ).loc main_v1 ↦[rowsOf (prv c)]{fullShare} f) ∗ ((c : Thread nD τ).loc main_v1 ↦[rowsOf (nxt c)]{fullShare} f)
      ∗ ((c : Thread nD τ).loc main_v1 ↦[rowsOf (opp c)]{fullShare} f)) := by
  have h := pointsTo_biUnion (ℓ := (c : Thread nD τ).loc main_v1) (q := fullShare) (f := f) (Ix := Unit) (Name := ℕ) (U := UU) (Lvl := ℕ) Finset.univ rowsOf rowsOf_disjoint
  rw [rowsOf_cover, bigSep_univ_eq_bigSepL [c, prv c, nxt c, opp c] (devs_complete c) (devs_nodup c),
    bigSepL_cons_cons, bigSepL_cons_cons, bigSepL_cons_cons, bigSepL_singleton] at h
  exact h

/-! ### The output buffer's two slots -/

theorem slotOf_disjoint : Disjoint (slotOf 0) (slotOf 1) := by
  refine Finset.disjoint_left.mpr fun i hi hi' => ?_
  unfold slotOf at hi hi'
  have h := (Finset.mem_filter.mp hi).2.symm.trans (Finset.mem_filter.mp hi').2
  exact absurd h (by decide)
theorem slotOf_cover : slotOf 0 ∪ slotOf 1 = Finset.univ := by
  refine Finset.eq_univ_iff_forall.mpr fun i => ?_
  have h : (i 0).val < 2 := (i 0).isLt
  unfold slotOf
  rw [Finset.mem_union, Finset.mem_filter, Finset.mem_filter]
  rcases Nat.lt_or_ge (i 0).val 1 with h' | h'
  · exact Or.inl ⟨Finset.mem_univ _, by show (i 0).val = 0; omega⟩
  · exact Or.inr ⟨Finset.mem_univ _, by show (i 0).val = 1; omega⟩

abbrev slotAny (c : Dev nD) (k : Fin 2) : sProp 𝕄 :=
  iprop(∃ f : Vec F S2x1024x2048 .f32, ((c : Thread nD τ).loc cc0_scratch7) ↦[slotOf k]{fullShare} f)

theorem slots_split (c : Dev nD) (f : Vec F S2x1024x2048 .f32) :
    (((c : Thread nD τ).loc cc0_scratch7) ↦{fullShare} f : sProp 𝕄) ⊢ iprop(slotAny c 0 ∗ slotAny c 1) := by
  have h := (pointsTo_union (ℓ := (c : Thread nD τ).loc cc0_scratch7) (q := fullShare) (f := f) (Ix := Unit) (Name := ℕ) (U := UU) (Lvl := ℕ) slotOf_disjoint).1
  rw [slotOf_cover] at h
  refine h.trans ?_
  iintro ⟨H0, H1⟩
  isplitl [H0]
  · iexists f; iexact H0
  · iexists f; iexact H1
theorem slots_join (c : Dev nD) :
    iprop(slotAny c 0 ∗ slotAny c 1) ⊢ (iprop(∃ f : Buf (Elt F) ((c : Thread nD τ).loc cc0_scratch7), ((c : Thread nD τ).loc cc0_scratch7) ↦{fullShare} f) : sProp 𝕄) := by
  iintro ⟨⟨%f, H0⟩, ⟨%g, H1⟩⟩
  have h := pointsTo_join (ℓ := (c : Thread nD τ).loc cc0_scratch7) (q := fullShare) (f := f) (g := g) (Ix := Unit) (Name := ℕ) (U := UU) (Lvl := ℕ) slotOf_disjoint
  rw [slotOf_cover] at h
  iexists _
  iapply h
  isplitl [H0] <;> iassumption

/-! ### The opposite block's two halves -/

theorem halves_disjoint : Disjoint opTop.view.set opBot.view.set :=
  View.disjoint_slice (v := View.whole cc0_scratch3) (Finset.disjoint_left.mpr fun i hi hi' => by
    have h : (i 0).val < 0 + 512 := (Rect.mem_set_unit.mp hi 0).2
    have h' : 512 ≤ (i 0).val := (Rect.mem_set_unit.mp hi' 0).1
    omega)
theorem halves_cover : opTop.view.set ∪ opBot.view.set = Finset.univ := by
  refine Finset.eq_univ_iff_forall.mpr fun i => ?_
  have h0 : (i 0).val < 1024 := (i 0).isLt
  have h1 : (i 1).val < 4096 := (i 1).isLt
  rw [Finset.mem_union, show opTop.view.set = rTop.set from View.set_slice_whole _ _, show opBot.view.set = rBot.set from View.set_slice_whole _ _]
  rcases Nat.lt_or_ge (i 0).val 512 with h | h
  · exact Or.inl (Rect.mem_set_unit.mpr (Fin.forall_fin_two.mpr ⟨⟨Nat.zero_le _, by show (i 0).val < 0 + 512; omega⟩, ⟨Nat.zero_le _, by show (i 1).val < 0 + 4096; omega⟩⟩))
  · exact Or.inr (Rect.mem_set_unit.mpr (Fin.forall_fin_two.mpr ⟨⟨h, by show (i 0).val < 512 + 512; omega⟩, ⟨Nat.zero_le _, by show (i 1).val < 0 + 4096; omega⟩⟩))

/-- The opposite buffer is its two halves. -/
theorem op_halves (c : Dev nD) (f : Vec F S1024x4096 .fp8e4m3) :
    (((c : Thread nD τ).loc cc0_scratch3) ↦{fullShare} f : sProp 𝕄) ⊣⊢ iprop(half opTop c fullShare f ∗ half opBot c fullShare f) := by
  have h := pointsTo_union (ℓ := (c : Thread nD τ).loc cc0_scratch3) (q := fullShare) (f := f) (Ix := Unit) (Name := ℕ) (U := UU) (Lvl := ℕ) halves_disjoint
  rw [halves_cover] at h
  exact h

/-! ### A block lent while it is read -/

/-- What is left of a block while half of it is lent: the other half at the lent share, and the whole at the rest. -/
abbrev clKept (c : Dev nD) (f : Vec F S1024x4096 .fp8e4m3) : sProp 𝕄 :=
  iprop(((c : Thread nD τ).loc cc0_scratch1) ↦[Finset.univ \ clTop.view.set]{qA} f)
abbrev crKept (c : Dev nD) (f : Vec F S1024x4096 .fp8e4m3) : sProp 𝕄 :=
  iprop(((c : Thread nD τ).loc cc0_scratch2) ↦[Finset.univ \ crBot.view.set]{qA} f)

theorem cl_lend (c : Dev nD) (f : Vec F S1024x4096 .fp8e4m3) :
    (blk clM c fullShare f : sProp 𝕄) ⊣⊢ iprop((half clTop c qA f ∗ clKept c f) ∗ ((c : Thread nD τ).loc cc0_scratch1) ↦{fullShare.right} f) := by
  rw [blk_cl]
  have h₁ := pointsTo_share (ℓ := (c : Thread nD τ).loc cc0_scratch1) (I := Finset.univ) (f := f) (Ix := Unit) (Name := ℕ) (U := UU) (Lvl := ℕ) (PosShare.mem_left_op_right fullShare)
  have h₂ := pointsTo_split_subset (ℓ := (c : Thread nD τ).loc cc0_scratch1) (q := qA) (f := f) (Ix := Unit) (Name := ℕ) (U := UU) (Lvl := ℕ) (I := clTop.view.set) (Finset.subset_univ _)
  exact ⟨h₁.1.trans (sep_mono_left h₂.1), (sep_mono_left h₂.2).trans h₁.2⟩
theorem cr_lend (c : Dev nD) (f : Vec F S1024x4096 .fp8e4m3) :
    (blk crM c fullShare f : sProp 𝕄) ⊣⊢ iprop((half crBot c qA f ∗ crKept c f) ∗ ((c : Thread nD τ).loc cc0_scratch2) ↦{fullShare.right} f) := by
  rw [blk_cr]
  have h₁ := pointsTo_share (ℓ := (c : Thread nD τ).loc cc0_scratch2) (I := Finset.univ) (f := f) (Ix := Unit) (Name := ℕ) (U := UU) (Lvl := ℕ) (PosShare.mem_left_op_right fullShare)
  have h₂ := pointsTo_split_subset (ℓ := (c : Thread nD τ).loc cc0_scratch2) (q := qA) (f := f) (Ix := Unit) (Name := ℕ) (U := UU) (Lvl := ℕ) (I := crBot.view.set) (Finset.subset_univ _)
  exact ⟨h₁.1.trans (sep_mono_left h₂.1), (sep_mono_left h₂.2).trans h₁.2⟩
/-- A device's own block at the two lent shares and the kept one. -/
theorem own_lend (c : Dev nD) (f : Vec F S1024x4096 .fp8e4m3) :
    (((c : Thread nD τ).loc cc0_scratch0) ↦{fullShare} f : sProp 𝕄) ⊣⊢ iprop(blk ownM c qA f ∗ blk ownM c qB f ∗ ((c : Thread nD τ).loc cc0_scratch0) ↦{qC} f) := by
  rw [blk_own, blk_own]
  have h₁ := pointsTo_share (ℓ := (c : Thread nD τ).loc cc0_scratch0) (I := Finset.univ) (f := f) (Ix := Unit) (Name := ℕ) (U := UU) (Lvl := ℕ) (PosShare.mem_left_op_right fullShare)
  have h₂ := pointsTo_share (ℓ := (c : Thread nD τ).loc cc0_scratch0) (I := Finset.univ) (f := f) (Ix := Unit) (Name := ℕ) (U := UU) (Lvl := ℕ) (PosShare.mem_left_op_right fullShare.right)
  exact ⟨h₁.1.trans (sep_mono_right h₂.1), (sep_mono_right h₂.2).trans h₁.2⟩

/-! ### The tiles' bounds -/

theorem XInv_start (c : Dev nD) (f : Vec F S1024x4096 .fp8e4m3) : (((c : Thread nD τ).loc cc0_scratch0) ↦{fullShare} f : sProp 𝕄) ⊢ XInv m c 0 := by
  unfold XInv
  iintro H
  iexists f
  isplitr
  · ipureintro; exact fun i h => absurd h (Nat.not_lt_zero _)
  iexact H
theorem XInv_full (c : Dev nD) : XInv m c 1024 ⊢ (((c : Thread nD τ).loc cc0_scratch0) ↦{fullShare} own m c : sProp 𝕄) := by
  unfold XInv
  iintro ⟨%f, %h, H⟩
  have e : f = own m c := funext fun i => h i (i 0).isLt
  subst e
  iexact H
theorem WInv_start (c : Dev nD) (f : Vec F S4096x2048 .fp8e4m3) : (((c : Thread nD τ).loc cc0_scratch4) ↦{fullShare} f : sProp 𝕄) ⊢ WInv m c 0 := by
  unfold WInv
  iintro H
  iexists f
  isplitr
  · ipureintro; exact fun i h => absurd h (Nat.not_lt_zero _)
  iexact H
theorem WInv_full (c : Dev nD) : WInv m c 4096 ⊢ (((c : Thread nD τ).loc cc0_scratch4) ↦{fullShare} w8 m c : sProp 𝕄) := by
  unfold WInv
  iintro ⟨%f, %h, H⟩
  have e : f = w8 m c := funext fun i => h i (i 0).isLt
  subst e
  iexact H

end Cert.RingProof

end
-- ==== Proof.State.lean ====
/-
# A device's state before and after the kernel, and the handshake

What the launch gives each device, what it holds when its kernel ends, and the first three steps: it signals each
neighbour, handing over the buffers that neighbour will write, and waits for the same from both.
-/
module

public import proofs.«01_k».proof.Proof.Parts

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

variable (ρ : Dev nD → PrngReg)

/-- The tokens of the duties device `c` pays. -/
def payToks (c : Dev nD) : sProp 𝕄 :=
  iprop(dutyTok ER (kcell (prv c, 0)) 0 true ∗ dutyTok ER (kcell (nxt c, 0)) 0 false
    ∗ dutyTok ER (kcell (nxt c, 1)) 0 true ∗ dutyTok ER (kcell (prv c, 2)) 0 true ∗ dutyTok ER (kcell (nxt c, 3)) 0 true ∗ dutyTok ER (kcell (prv c, 4)) 0 true
    ∗ dutyTok ER (kcell (c, 5)) 0 true ∗ dutyTok ER (kcell (c, 6)) 0 true ∗ dutyTok ER (kcell (c, 7)) 0 true ∗ dutyTok ER (kcell (c, 8)) 0 true)
/-- Its position at each of its nine cells. -/
def ats (c : Dev nD) : sProp 𝕄 := bigSep Finset.univ fun k : Fin 9 => atPos ER (kcell (c, k)) 0 ∅ 0
/-- Its three local semaphores. -/
def locals (c : Dev nD) : sProp 𝕄 :=
  iprop(semVal ((c : Thread nD τ), .dma stageS) 0 ∗ semVal ((c : Thread nD τ), .dma outS0) 0 ∗ semVal ((c : Thread nD τ), .dma outS1) 0)
/-- What the launch's common step leaves each device. -/
def dealt (c : Dev nD) : sProp 𝕄 := iprop(∃ K, records m K ∗ (ats c ∗ payToks c) ∗ locals c)
/-- The credit of its five cells that others pay. -/
def credits (c : Dev nD) : sProp 𝕄 :=
  iprop(cred (tallyAt (kcell (c, 0)) () 2) ∗ cred (tallyAt (kcell (c, 1)) () N) ∗ cred (tallyAt (kcell (c, 2)) () N)
    ∗ cred (tallyAt (kcell (c, 3)) () Nh) ∗ cred (tallyAt (kcell (c, 4)) () Nh))
/-- The three arrays of its that no window stages, the result at `f`. -/
def arrays (c : Dev nD) (f : Vec F S4096x2048 .f32) : sProp 𝕄 :=
  iprop((((c : Thread nD τ).loc main_arg0) ↦{fullShare} xv m c) ∗ (((c : Thread nD τ).loc main_arg1) ↦{fullShare} wv m c)
    ∗ ((c : Thread nD τ).loc main_v1) ↦{fullShare} f)
/-- Its eight scratch buffers, at anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ f : Buf (Elt F) ((c : Thread nD τ).loc cc0_scratch7), ((c : Thread nD τ).loc cc0_scratch7) ↦{fullShare} f))
/-- Its nine ring semaphores at zero. -/
def zeros (c : Dev nD) : sProp 𝕄 := bigSep Finset.univ fun k : Fin 9 => semVal (kcell (c, k)) 0

def start (c : Dev nD) : sProp 𝕄 :=
  iprop(dealt m c ∗ credits c ∗ levAts L lv ∗ arrays m c (m ((c : Thread nD τ).loc main_v1)))
def Φ₀ (c : Dev nD) : sProp 𝕄 := iprop(start m c ∗ scratch c)
def Φ₁ (c : Dev nD) : sProp 𝕄 := iprop(arrays m c (out m c) ∗ locals c ∗ zeros c ∗ scratch c)

/-- A scale as the windows stage it. -/
def sc (c : Dev nD) (w : Fin cfg0.W) : ((cfg0.win w).xblock (cfg0.grid.coords t0_0)).Idx → Elt F (cfg0.win w).elt :=
  ((cfg0.win w).blk t0_0).view.read (Elt F) (m ((c : Thread nD τ).loc (Pipeline.arrRef spec0 w)))

set_option maxRecDepth 4000 in
/-- The pipeline's data: the two staged scales left as they are, the ring's state before and after the one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sc m c 0
    | ⟨1, _⟩ => sc m c 1
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The handshake -/

section
variable (K : Dev nD × Fin 9 → ℕ)

theorem bar_signal (c d : Dev nD) (b : Bool) (O : CellTallies nD τ sig Unit) (W : Waits sig Unit)
    {α : Type} {Q : α → sProp 𝕄} {k : PUnit → Prog (TpuEff nD τ sig (Elt F) Λ₀ .tc) α} (n : Dev nD) (hn : n = d) :
    iprop(records m K ∗ owes (c : Thread nD τ) (O + tallyAt (kcell (d, 0)) () 1) W ∗ dutyTok ER (kcell (d, 0)) 0 b ∗ pay m d 0 b)
      ⊢ iprop((owes (c : Thread nD τ) O W -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n, Proc.tc) barS (1#32 : BitVec 32).toInt) k) Q) := by
  subst hn
  iintro ⟨#HR, HO, Ht, Hp⟩ Hk
  iapply (Rounds.wp_signal 𝒱₀ ER (Rd m) (c : Thread nD τ) none (dst := (n : Thread nD τ)) (κ := K (n, 0)) (d := b) (mem_dut_bar m n b)
    (k' := 1) (amount_at m n 0 b) () O rfl) $$ [HO Ht Hp]
  · isplitr; · iapply (inv_at m K (n, 0)); iexact HR
    isplitl [HO]; · iexact HO
    isplitl [Ht]; · iexact Ht
    isplitl [Hp]
    · iapply (Entails.of_eq (payload_at m n 0 b).symm); iexact Hp
    iapply (reached_at m K (n, 0)); iexact HR
  iexact Hk

theorem bar_wait (c : Dev nD) (O : CellTallies nD τ sig Unit) (hO : Above 1 O) (W : Waits sig Unit)
    {α : Type} {Q : α → sProp 𝕄} {k : PUnit → Prog (TpuEff nD τ sig (Elt F) Λ₀ .tc) α} :
    iprop(records m K ∗ levAts L lv ∗ cred (tallyAt (kcell (c, 0)) () 2) ∗ owes (c : Thread nD τ) O W ∗ atPos ER (kcell (c, 0)) 0 ∅ 0)
      ⊢ iprop((iprop((pay m c 0 false ∗ pay m c 0 true) ∗ semVal (kcell (c, 0)) 0 ∗ owes (c : Thread nD τ) O (insert (SemLoc.reg barS, ()) W))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (2#32 : BitVec 32).toInt) k) Q) := by
  iintro ⟨#HR, #Hlev, Hc, HO, Hat⟩ Hk
  iapply (Rounds.wp_wait_rest_token 𝒱₀ ER (Rd m) (c : Thread nD τ) none (κ := K (c, 0)) (k' := 2) (wpE_semWait_eq 𝒱₀ (c : Thread nD τ) none Set.univ) (Set.mem_univ _) ()
    (O := O) (W := W) (R := 0) (m := 0) (T := ∅) (by rw [Nat.zero_add]; exact (expect_bar m c).symm)) $$ [Hc HO Hat]
  · isplitr; · iapply (inv_at m K (c, 0)); iexact HR
    isplitl [Hc]; · iexact Hc
    isplitl [HO]; · iexact HO
    isplitr; · iapply (mayWait c (.reg barS) 1 O hO (lv_at c 0).le); iexact Hlev
    iexact Hat
  iintro ⟨HO, Hat, -, Hpay⟩
  imod (Rounds.cell_close ER (Rd m) (Set.mem_univ (K (c, 0))) (fun h => h) (R := 0 + 1) (duties_later m ((c : Thread nD τ), SemLoc.reg barS))) $$ [Hat] with Hz
  · isplitr; · iapply (inv_at m K (c, 0)); iexact HR
    iexact Hat
  ihave Hpay := (Entails.of_eq (rest_bar m c)) $$ Hpay
  iapply Hk
  isplitl [Hpay]; · iexact Hpay
  isplitl [Hz]; · iexact Hz
  iexact HO

end

/-! ## The staged scales -/

/-- A whole buffer held at a named content. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem S1_one (x y : S1.Idx) : x = y := funext fun a => by
  have hx : (x a).val < 1 := by have := (x a).isLt; revert this; fin_cases a; exact id
  have hy : (y a).val < 1 := by have := (y a).isLt; revert this; fin_cases a; exact id
  exact Fin.ext (by omega)

theorem sc_scale (c : Dev nD) : Scalar.mulf ((sc m c 0 : Vec F S1 .f32) ix1) ((sc m c 1 : Vec F S1 .f32) ix1) = scale m c :=
  congr (congrArg Scalar.mulf (congrArg (m ((c : Thread nD τ).loc main_arg2) : Vec F S1 .f32) (S1_one _ _)))
    (congrArg (m ((c : Thread nD τ).loc main_arg3) : Vec F S1 .f32) (S1_one _ _))

theorem bigSep_two (Φ : Fin cfg0.W → sProp 𝕄) : bigSep Finset.univ Φ = iprop(Φ (0 : Fin 2) ∗ Φ (1 : Fin 2)) := bigSep_W0 Φ
theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

end Cert.RingProof

end
-- ==== Proof.Body.lean ====
/-
# The kernel on one device
-/
module

public import proofs.«01_k».proof.Proof.State
public import Idealize.ShloMosaic.Lib.Pointwise.Reshape

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

def bodyPre (K : Dev nD × Fin 9 → ℕ) (c : Dev nD) : sProp 𝕄 :=
  iprop((records m K ∗ (ats c ∗ payToks c) ∗ locals c) ∗ (credits c ∗ levAts L lv ∗ arrays m c (m ((c : Thread nD τ).loc main_v1))) ∗ scratch c
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (sc m c 0) ∗ stg c cc0_stg1_0 (sc m c 1))

theorem zero1 : (![0] : Fin 1 → Nat) = fun _ => 0 := funext fun a => by fin_cases a; rfl

/-! ## What is stored, step by step -/

section Stored
variable (c o : Dev nD)

theorem read_s0 {inb : ∀ a, (![0] : Fin 1 → ℕ) a + S1.size a ≤ S1.size a} :
    (Memref.whole cc0_stg0_0 : Memref sig .tc .smem S1 .f32).view.readAt (Elt F) (Rect.unit (s := S1) ![0] S1.size inb).toLoadRect (sc m c 0) = sc m c 0 :=
  Memref.readAt_unit_zero (Elt F) cc0_stg0_0 zero1 _ _
theorem read_s1 {inb : ∀ a, (![0] : Fin 1 → ℕ) a + S1.size a ≤ S1.size a} :
    (Memref.whole cc0_stg1_0 : Memref sig .tc .smem S1 .f32).view.readAt (Elt F) (Rect.unit (s := S1) ![0] S1.size inb).toLoadRect (sc m c 1) = sc m c 1 :=
  Memref.readAt_unit_zero (Elt F) cc0_stg1_0 zero1 _ _

/-- The value stored for the rows that device `o`'s block gives, from the loaded scales, block and columns. -/
theorem stored {a b : Elt F .f32} {x : Vec F S1024x4096 .fp8e4m3} {w : Vec F S4096x2048 .fp8e4m3}
    (ha : a = (sc m c 0 : Vec F S1 .f32) ix1) (hb : b = (sc m c 1 : Vec F S1 .f32) ix1) (hx : x = own m o) (hw : w = w8 m c) :
    k0_pay15 a b x w = shapeCast S1x1024x2048 (outBlock m c o) shapeCasts_S1024x2048_S1x1024x2048 := by
  subst ha hb hx hw
  unfold outBlock
  rw [← sc_scale]
  rfl

end Stored

set_option maxHeartbeats 2000000 in
theorem sound_body (K : Dev nD × Fin 9 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole main_arg0) (Memref.isWhole_whole _) (Memref.whole main_arg1) (Memref.isWhole_whole _) (Memref.whole cc0_stg0_0) (Memref.isWhole_whole _) (Memref.whole cc0_stg1_0) (Memref.isWhole_whole _)
            (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11) Kt := by
  rw [cc0_body_eq_skeleton]; unfold cc0_body_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, smemLoad, smemLoadElt, Prog.lift, Prog.bind_op, Prog.bind_ret, Prog.pure_eq_ret, wp_deviceId]
  unfold bodyPre credits locals payToks arrays scratch ats
  rw [bigSep_nine]
  iintro ⟨⟨⟨#HR, ⟨⟨Hat0, Hat1, Hat2, Hat3, Hat4, Hat5, Hat6, Hat7, Hat8⟩, Ht0P, Ht0N, Ht1, Ht2, Ht3, Ht4, Ht5, Ht6, Ht7, Ht8⟩, HzSt, HzO0, HzO1⟩,
    ⟨⟨Hc0, Hc1, Hc2, Hc3, Hc4⟩, #Hlev, Harg0, Harg1, Hv⟩,
    ⟨⟨%f0, Hown⟩, ⟨%f1, Hcl⟩, ⟨%f2, Hcr⟩, ⟨%f3, Hop⟩, ⟨%f4, Hw8⟩, Hxs, Hws, ⟨%f7, Hos⟩⟩, Ho, ⟨%d0, %g0, %hg0, Hs0⟩, ⟨%d1, %g1, %hg1, Hs1⟩⟩, Hk⟩
  have hs0 : g0 = sc m c 0 := by rw [hg0]; unfold Dat.before; rw [if_pos (fetch0_0 t0_0)]; rfl
  have hs1 : g1 = sc m c 1 := by rw [hg1]; unfold Dat.before; rw [if_pos (fetch0_1 t0_0)]; rfl
  subst hs0 hs1
  unfold Dat.owesAt Pipeline.owesWithin
  icases Ho with ⟨%W, %hW, HO⟩
  rw [show (dats m ρ 0 c).owed t0_0.castSucc = O₁ c + tallyAt (kcell (prv c, 0)) () 1 from rfl]
  -- the buffers in the parts they are used in
  ihave Hv := (Entails.of_eq (out_rows c (m ((c : Thread nD τ).loc main_v1)))) $$ Hv
  icases Hv with ⟨HvC, HvP, HvN, HvO⟩
  ihave Hos := (slots_split c f7) $$ Hos
  icases Hos with ⟨Hsl0, Hsl1⟩
  ihave Hop := (op_halves c f3).1 $$ Hop
  icases Hop with ⟨HopT, HopB⟩
  ihave Hcl := (Entails.of_eq (blk_cl c fullShare f1).symm) $$ Hcl
  ihave Hcr := (Entails.of_eq (blk_cr c fullShare f2).symm) $$ Hcr
  -- the handshake
  iapply (bar_signal m K c (prv c) true (O₁ c) W _ (dev1_eq c)) $$ [HO Ht0P Hcl HopT]
  · isplitr; · iexact HR
    isplitl [HO]; · iexact HO
    isplitl [Ht0P]; · iexact Ht0P
    rw [show pay m (prv c) 0 true = iprop((∃ f, blk clM (nxt (prv c)) fullShare f) ∗ ∃ f, half opTop (nxt (prv c)) fullShare f) from rfl, nxt_prv]
    isplitl [Hcl]
    · iexists f1; iexact Hcl
    · iexists f3; iexact HopT
  iintro HO
  rw [show O₁ c = O₂ c + tallyAt (kcell (nxt c, 0)) () 1 from rfl]
  iapply (bar_signal m K c (nxt c) false (O₂ c) W _ (dev2_eq c)) $$ [HO Ht0N Hcr HopB]
  · isplitr; · iexact HR
    isplitl [HO]; · iexact HO
    isplitl [Ht0N]; · iexact Ht0N
    rw [show pay m (nxt c) 0 false = iprop((∃ f, blk crM (prv (nxt c)) fullShare f) ∗ ∃ f, half opBot (prv (nxt c)) fullShare f) from rfl, prv_nxt]
    isplitl [Hcr]
    · iexists f2; iexact Hcr
    · iexists f3; iexact HopB
  iintro HO
  iapply (bar_wait m K c (O₂ c) (above_O₂ c) W) $$ [Hc0 HO Hat0]
  · isplitr; · iexact HR
    isplitr; · iexact Hlev
    isplitl [Hc0]; · iexact Hc0
    isplitl [HO]; · iexact HO
    iexact Hat0
  iintro ⟨⟨HpF, HpT⟩, Hz0, HO⟩
  ihave HpF := (Entails.of_eq (show pay m c 0 false = iprop((∃ f, blk crM (prv c) fullShare f) ∗ ∃ f, half opBot (prv c) fullShare f) from rfl)) $$ HpF
  ihave HpT := (Entails.of_eq (show pay m c 0 true = iprop((∃ f, blk clM (nxt c) fullShare f) ∗ ∃ f, half opTop (nxt c) fullShare f) from rfl)) $$ HpT
  icases HpF with ⟨⟨%g2, HcrP⟩, ⟨%g4, HopBP⟩⟩
  icases HpT with ⟨⟨%g1, HclN⟩, ⟨%g3, HopTN⟩⟩
  -- the block of x
  ihave HX := (XInv_start m c f0) $$ Hown
  iapply (x_tile m 0 _ c _ (fun v => shapeCast_id _ _) (O₂ c) ((above_O₂ c).mono (by decide)) _) $$ [HX Hxs Harg0 HzSt HO]
  · isplitl [HX]; · iexact HX
    isplitl [Hxs]; · iexact Hxs
    isplitl [Harg0]; · iexact Harg0
    isplitl [HzSt]; · iexact HzSt
    isplitl [HO]; · iexact HO
    iexact Hlev
  iintro ⟨HX, Hxs, Harg0, HzSt, HO⟩
  iapply (x_tile m 256 _ c _ (fun v => shapeCast_id _ _) (O₂ c) ((above_O₂ c).mono (by decide)) _) $$ [HX Hxs Harg0 HzSt HO]
  · isplitl [HX]; · iexact HX
    isplitl [Hxs]; · iexact Hxs
    isplitl [Harg0]; · iexact Harg0
    isplitl [HzSt]; · iexact HzSt
    isplitl [HO]; · iexact HO
    iexact Hlev
  iintro ⟨HX, Hxs, Harg0, HzSt, HO⟩
  iapply (x_tile m 512 _ c _ (fun v => shapeCast_id _ _) (O₂ c) ((above_O₂ c).mono (by decide)) _) $$ [HX Hxs Harg0 HzSt HO]
  · isplitl [HX]; · iexact HX
    isplitl [Hxs]; · iexact Hxs
    isplitl [Harg0]; · iexact Harg0
    isplitl [HzSt]; · iexact HzSt
    isplitl [HO]; · iexact HO
    iexact Hlev
  iintro ⟨HX, Hxs, Harg0, HzSt, HO⟩
  iapply (x_tile m 768 _ c _ (fun v => shapeCast_id _ _) (O₂ c) ((above_O₂ c).mono (by decide)) _) $$ [HX Hxs Harg0 HzSt HO]
  · isplitl [HX]; · iexact HX
    isplitl [Hxs]; · iexact Hxs
    isplitl [Harg0]; · iexact Harg0
    isplitl [HzSt]; · iexact HzSt
    isplitl [HO]; · iexact HO
    iexact Hlev
  iintro ⟨HX, Hxs, Harg0, HzSt, HO⟩
  ihave Hown := (XInv_full m c) $$ HX
  ihave Hown := (own_lend c (own m c)).1 $$ Hown
  icases Hown with ⟨HoA, HoB, Hown⟩
  -- to the right and to the left
  iapply (ring_send m K c _ (nxt c) (dev3_eq c) 5 1 rfl rfl (src := ownM) (dst := clM) qA (own m c) g1 rfl rfl
    (Entails.refl _) (land_cl m c g1) (O₃ c) (O₂ c) rfl _) $$ [HoA HclN HO Ht5 Ht1]
  · isplitr; · iexact HR
    isplitl [HoA]; · iexact HoA
    isplitl [HclN]; · iexact HclN
    isplitl [HO]; · iexact HO
    isplitl [Ht5]; · iexact Ht5
    iexact Ht1
  iintro ⟨Hc5, HO⟩
  iapply (ring_send m K c _ (prv c) (dev4_eq c) 6 2 rfl rfl (src := ownM) (dst := crM) qB (own m c) g2 rfl rfl
    (Entails.refl _) (land_cr m c g2) (O₄ c) (O₃ c) rfl _) $$ [HoB HcrP HO Ht6 Ht2]
  · isplitr; · iexact HR
    isplitl [HoB]; · iexact HoB
    isplitl [HcrP]; · iexact HcrP
    isplitl [HO]; · iexact HO
    isplitl [Ht6]; · iexact Ht6
    iexact Ht2
  iintro ⟨Hc6, HO⟩
  -- the columns of w
  ihave HW := (WInv_start m c f4) $$ Hw8
  iapply (w_tile m 0 _ c _ (fun v => shapeCast_id _ _) (O₄ c) ((above_O₄ c).mono (by decide)) _) $$ [HW Hws Harg1 HzSt HO]
  · isplitl [HW]; · iexact HW
    isplitl [Hws]; · iexact Hws
    isplitl [Harg1]; · iexact Harg1
    isplitl [HzSt]; · iexact HzSt
    isplitl [HO]; · iexact HO
    iexact Hlev
  iintro ⟨HW, Hws, Harg1, HzSt, HO⟩
  iapply (w_tile m 512 _ c _ (fun v => shapeCast_id _ _) (O₄ c) ((above_O₄ c).mono (by decide)) _) $$ [HW Hws Harg1 HzSt HO]
  · isplitl [HW]; · iexact HW
    isplitl [Hws]; · iexact Hws
    isplitl [Harg1]; · iexact Harg1
    isplitl [HzSt]; · iexact HzSt
    isplitl [HO]; · iexact HO
    iexact Hlev
  iintro ⟨HW, Hws, Harg1, HzSt, HO⟩
  iapply (w_tile m 1024 _ c _ (fun v => shapeCast_id _ _) (O₄ c) ((above_O₄ c).mono (by decide)) _) $$ [HW Hws Harg1 HzSt HO]
  · isplitl [HW]; · iexact HW
    isplitl [Hws]; · iexact Hws
    isplitl [Harg1]; · iexact Harg1
    isplitl [HzSt]; · iexact HzSt
    isplitl [HO]; · iexact HO
    iexact Hlev
  iintro ⟨HW, Hws, Harg1, HzSt, HO⟩
  iapply (w_tile m 1536 _ c _ (fun v => shapeCast_id _ _) (O₄ c) ((above_O₄ c).mono (by decide)) _) $$ [HW Hws Harg1 HzSt HO]
  · isplitl [HW]; · iexact HW
    isplitl [Hws]; · iexact Hws
    isplitl [Harg1]; · iexact Harg1
    isplitl [HzSt]; · iexact HzSt
    isplitl [HO]; · iexact HO
    iexact Hlev
  iintro ⟨HW, Hws, Harg1, HzSt, HO⟩
  iapply (w_tile m 2048 _ c (fun v => k0_pay10 (k0_pay9 v)) (fun v => shapeCast_id _ _) (O₄ c) ((above_O₄ c).mono (by decide)) _) $$ [HW Hws Harg1 HzSt HO]
  · isplitl [HW]; · iexact HW
    isplitl [Hws]; · iexact Hws
    isplitl [Harg1]; · iexact Harg1
    isplitl [HzSt]; · iexact HzSt
    isplitl [HO]; · iexact HO
    iexact Hlev
  iintro ⟨HW, Hws, Harg1, HzSt, HO⟩
  iapply (w_tile m 2560 _ c _ (fun v => shapeCast_id _ _) (O₄ c) ((above_O₄ c).mono (by decide)) _) $$ [HW Hws Harg1 HzSt HO]
  · isplitl [HW]; · iexact HW
    isplitl [Hws]; · iexact Hws
    isplitl [Harg1]; · iexact Harg1
    isplitl [HzSt]; · iexact HzSt
    isplitl [HO]; · iexact HO
    iexact Hlev
  iintro ⟨HW, Hws, Harg1, HzSt, HO⟩
  iapply (w_tile m 3072 _ c _ (fun v => shapeCast_id _ _) (O₄ c) ((above_O₄ c).mono (by decide)) _) $$ [HW Hws Harg1 HzSt HO]
  · isplitl [HW]; · iexact HW
    isplitl [Hws]; · iexact Hws
    isplitl [Harg1]; · iexact Harg1
    isplitl [HzSt]; · iexact HzSt
    isplitl [HO]; · iexact HO
    iexact Hlev
  iintro ⟨HW, Hws, Harg1, HzSt, HO⟩
  iapply (w_tile m 3584 _ c _ (fun v => shapeCast_id _ _) (O₄ c) ((above_O₄ c).mono (by decide)) _) $$ [HW Hws Harg1 HzSt HO]
  · isplitl [HW]; · iexact HW
    isplitl [Hws]; · iexact Hws
    isplitl [Harg1]; · iexact Harg1
    isplitl [HzSt]; · iexact HzSt
    isplitl [HO]; · iexact HO
    iexact Hlev
  iintro ⟨HW, Hws, Harg1, HzSt, HO⟩
  ihave Hw8 := (WInv_full m c) $$ HW
  -- the scales
  iapply (wp_load 𝒱₀ (c : Thread nD τ) none Set.univ (m := (Memref.whole cc0_stg0_0)) (Finset.subset_univ _)) $$ Hs0; iintro Hs0
  iapply (wp_load 𝒱₀ (c : Thread nD τ) none Set.univ (m := (Memref.whole cc0_stg1_0)) (Finset.subset_univ _)) $$ Hs1; iintro Hs1
  -- its own block's rows
  iapply (wp_load 𝒱₀ (c : Thread nD τ) none Set.univ (m := ownM) (Finset.subset_univ _)) $$ Hown; iintro Hown
  iapply (wp_load 𝒱₀ (c : Thread nD τ) none Set.univ (m := w8M) (Finset.subset_univ _)) $$ Hw8; iintro Hw8
  iapply (emit m c c _ _ (offOwn_eq c) 0 _ 0 rfl outS0 _ (stored m c c (congrFun (read_s0 m c) _) (congrFun (read_s1 m c) _) (Memref.readAt_unit_zero (Elt F) cc0_scratch0 zero2 _ _) (Memref.readAt_unit_zero (Elt F) cc0_scratch4 zero2 _ _))) $$ [Hsl0 HvC HzO0]
  · isplitl [Hsl0]; · iexact Hsl0
    isplitl [HvC]; · iexists _; iexact HvC
    iexact HzO0
  iintro HF0
  -- the left neighbour's block: arrived, forwarded in half, multiplied
  iapply (ring_wait m K c 1 (by decide) rfl (dst := clM) 2 (O₄ c) (above_O₄ c) (by decide) _ rfl) $$ [Hc1 HO Hat1]
  · isplitr; · iexact HR
    isplitr; · iexact Hlev
    isplitl [Hc1]; · iexact Hc1
    isplitl [HO]; · iexact HO
    iexact Hat1
  iintro ⟨Hcl, Hz1, HO⟩
  ihave Hcl := (Entails.of_eq (show pay m c 1 true = blk clM c fullShare (own m (prv c)) from rfl)) $$ Hcl
  ihave Hcl := (cl_lend c (own m (prv c))).1 $$ Hcl
  icases Hcl with ⟨⟨HclT, HclK⟩, Hcl⟩
  iapply (ring_send m K c _ (nxt c) (dev5_eq c) 7 3 rfl rfl (src := clTop) (dst := opTop) qA (own m (prv c)) g3 rfl rfl
    (Entails.refl _) (land_top m c g3) (O₅ c) (O₄ c) rfl _) $$ [HclT HopTN HO Ht7 Ht3]
  · isplitr; · iexact HR
    isplitl [HclT]; · iexact HclT
    isplitl [HopTN]; · iexact HopTN
    isplitl [HO]; · iexact HO
    isplitl [Ht7]; · iexact Ht7
    iexact Ht3
  iintro ⟨Hc7, HO⟩
  iapply (wp_load 𝒱₀ (c : Thread nD τ) none Set.univ (m := clM) (Finset.subset_univ _)) $$ Hcl; iintro Hcl
  iapply (wp_load 𝒱₀ (c : Thread nD τ) none Set.univ (m := w8M) (Finset.subset_univ _)) $$ Hw8; iintro Hw8
  iapply (emit m c (prv c) _ _ (offPrv_eq c) 1 _ 1 rfl outS1 _ (stored m c (prv c) (congrFun (read_s0 m c) _) (congrFun (read_s1 m c) _) (Memref.readAt_unit_zero (Elt F) cc0_scratch1 zero2 _ _) (Memref.readAt_unit_zero (Elt F) cc0_scratch4 zero2 _ _))) $$ [Hsl1 HvP HzO1]
  · isplitl [Hsl1]; · iexact Hsl1
    isplitl [HvP]; · iexists _; iexact HvP
    iexact HzO1
  iintro HF1
  -- the right neighbour's block, the same
  iapply (ring_wait m K c 2 (by decide) rfl (dst := crM) 2 (O₅ c) (above_O₅ c) (by decide) _ rfl) $$ [Hc2 HO Hat2]
  · isplitr; · iexact HR
    isplitr; · iexact Hlev
    isplitl [Hc2]; · iexact Hc2
    isplitl [HO]; · iexact HO
    iexact Hat2
  iintro ⟨Hcr, Hz2, HO⟩
  ihave Hcr := (Entails.of_eq (show pay m c 2 true = blk crM c fullShare (own m (nxt c)) from rfl)) $$ Hcr
  ihave Hcr := (cr_lend c (own m (nxt c))).1 $$ Hcr
  icases Hcr with ⟨⟨HcrB, HcrK⟩, Hcr⟩
  iapply (ring_send m K c _ (prv c) (dev6_eq c) 8 4 rfl rfl (src := crBot) (dst := opBot) qA (own m (nxt c)) g4 rfl rfl
    (Entails.refl _) (land_bot m c g4) (0) (O₅ c) rfl _) $$ [HcrB HopBP HO Ht8 Ht4]
  · isplitr; · iexact HR
    isplitl [HcrB]; · iexact HcrB
    isplitl [HopBP]; · iexact HopBP
    isplitl [HO]; · iexact HO
    isplitl [Ht8]; · iexact Ht8
    iexact Ht4
  iintro ⟨Hc8, HO⟩
  iapply (emit_wait m c c _ _ 0 _ 0 outS0 _) $$ [HF0 HO]
  · isplitl [HF0]; · iexact HF0
    iexact HO
  iintro ⟨HvC, Hsl0, HzO0, HO⟩
  iapply (wp_load 𝒱₀ (c : Thread nD τ) none Set.univ (m := crM) (Finset.subset_univ _)) $$ Hcr; iintro Hcr
  iapply (wp_load 𝒱₀ (c : Thread nD τ) none Set.univ (m := w8M) (Finset.subset_univ _)) $$ Hw8; iintro Hw8
  iapply (emit m c (nxt c) _ _ (offNxt_eq c) 0 _ 0 rfl outS0 _ (stored m c (nxt c) (congrFun (read_s0 m c) _) (congrFun (read_s1 m c) _) (Memref.readAt_unit_zero (Elt F) cc0_scratch2 zero2 _ _) (Memref.readAt_unit_zero (Elt F) cc0_scratch4 zero2 _ _))) $$ [Hsl0 HvN HzO0]
  · isplitl [Hsl0]; · iexact Hsl0
    isplitl [HvN]; · iexists _; iexact HvN
    iexact HzO0
  iintro HF0
  -- the opposite block: its two halves arrived
  iapply (ring_wait m K c 3 (by decide) rfl (dst := opTop) 3 0 (above_zero 3) (by decide) _ rfl) $$ [Hc3 HO Hat3]
  · isplitr; · iexact HR
    isplitr; · iexact Hlev
    isplitl [Hc3]; · iexact Hc3
    isplitl [HO]; · iexact HO
    iexact Hat3
  iintro ⟨HopT, Hz3, HO⟩
  ihave HopT := (Entails.of_eq (show pay m c 3 true = half opTop c fullShare (own m (opp c)) from rfl)) $$ HopT
  iapply (ring_wait m K c 4 (by decide) rfl (dst := opBot) 3 0 (above_zero 3) (by decide) _ rfl) $$ [Hc4 HO Hat4]
  · isplitr; · iexact HR
    isplitr; · iexact Hlev
    isplitl [Hc4]; · iexact Hc4
    isplitl [HO]; · iexact HO
    iexact Hat4
  iintro ⟨HopB, Hz4, HO⟩
  ihave HopB := (Entails.of_eq (show pay m c 4 true = half opBot c fullShare (own m (opp c)) from rfl)) $$ HopB
  ihave Hop := (op_halves c (own m (opp c))).2 $$ [HopT HopB]
  · isplitl [HopT]
    · iexact HopT
    · iexact HopB
  iapply (emit_wait m c (prv c) _ _ 1 _ 1 outS1 _) $$ [HF1 HO]
  · isplitl [HF1]; · iexact HF1
    iexact HO
  iintro ⟨HvP, Hsl1, HzO1, HO⟩
  iapply (wp_load 𝒱₀ (c : Thread nD τ) none Set.univ (m := opM) (Finset.subset_univ _)) $$ Hop; iintro Hop
  iapply (wp_load 𝒱₀ (c : Thread nD τ) none Set.univ (m := w8M) (Finset.subset_univ _)) $$ Hw8; iintro Hw8
  iapply (emit m c (opp c) _ _ (offOpp_eq c) 1 _ 1 rfl outS1 _ (stored m c (opp c) (congrFun (read_s0 m c) _) (congrFun (read_s1 m c) _) (Memref.readAt_unit_zero (Elt F) cc0_scratch3 zero2 _ _) (Memref.readAt_unit_zero (Elt F) cc0_scratch4 zero2 _ _))) $$ [Hsl1 HvO HzO1]
  · isplitl [Hsl1]; · iexact Hsl1
    isplitl [HvO]; · iexists _; iexact HvO
    iexact HzO1
  iintro HF1
  -- what was lent comes back
  iapply (ring_wait m K c 5 (by decide) rfl (dst := ownM) 3 0 (above_zero 3) (by decide) _ rfl) $$ [Hc5 HO Hat5]
  · isplitr; · iexact HR
    isplitr; · iexact Hlev
    isplitl [Hc5]; · iexact Hc5
    isplitl [HO]; · iexact HO
    iexact Hat5
  iintro ⟨HoA, Hz5, HO⟩
  ihave HoA := (Entails.of_eq (show pay m c 5 true = blk ownM c qA (own m c) from rfl)) $$ HoA
  iapply (ring_wait m K c 6 (by decide) rfl (dst := ownM) 3 0 (above_zero 3) (by decide) _ rfl) $$ [Hc6 HO Hat6]
  · isplitr; · iexact HR
    isplitr; · iexact Hlev
    isplitl [Hc6]; · iexact Hc6
    isplitl [HO]; · iexact HO
    iexact Hat6
  iintro ⟨HoB, Hz6, HO⟩
  ihave HoB := (Entails.of_eq (show pay m c 6 true = blk ownM c qB (own m c) from rfl)) $$ HoB
  iapply (ring_wait m K c 7 (by decide) rfl (dst := clTop) 3 0 (above_zero 3) (by decide) _ rfl) $$ [Hc7 HO Hat7]
  · isplitr; · iexact HR
    isplitr; · iexact Hlev
    isplitl [Hc7]; · iexact Hc7
    isplitl [HO]; · iexact HO
    iexact Hat7
  iintro ⟨HclT, Hz7, HO⟩
  ihave HclT := (Entails.of_eq (show pay m c 7 true = half clTop c qA (own m (prv c)) from rfl)) $$ HclT
  iapply (ring_wait m K c 8 (by decide) rfl (dst := crBot) 3 0 (above_zero 3) (by decide) _ rfl) $$ [Hc8 HO Hat8]
  · isplitr; · iexact HR
    isplitr; · iexact Hlev
    isplitl [Hc8]; · iexact Hc8
    isplitl [HO]; · iexact HO
    iexact Hat8
  iintro ⟨HcrB, Hz8, HO⟩
  ihave HcrB := (Entails.of_eq (show pay m c 8 true = half crBot c qA (own m (nxt c)) from rfl)) $$ HcrB
  iapply (emit_wait m c (nxt c) _ _ 0 _ 0 outS0 _) $$ [HF0 HO]
  · isplitl [HF0]; · iexact HF0
    iexact HO
  iintro ⟨HvN, Hsl0, HzO0, HO⟩
  iapply (emit_wait m c (opp c) _ _ 1 _ 1 outS1 _) $$ [HF1 HO]
  · isplitl [HF1]; · iexact HF1
    iexact HO
  iintro ⟨HvO, Hsl1, HzO1, HO⟩
  rw [wp_ret]; imodintro
  iapply Hk
  unfold bodyPost Φ₁ arrays locals zeros scratch Dat.owesAt Pipeline.owesWithin
  rw [bigSep_nine, show (dats m ρ 0 c).owed t0_0.succ = 0 from rfl]
  isplitr [HO Hs0 Hs1]
  · isplitl [Harg0 Harg1 HvC HvP HvN HvO]
    · isplitl [Harg0]; · iexact Harg0
      isplitl [Harg1]; · iexact Harg1
      iapply (Entails.of_eq (out_rows c (out m c)).symm)
      isplitl [HvC]; · iexact HvC
      isplitl [HvP]; · iexact HvP
      isplitl [HvN] <;> iassumption
    isplitl [HzSt HzO0 HzO1]
    · isplitl [HzSt]; · iexact HzSt
      isplitl [HzO0] <;> iassumption
    isplitl [Hz0 Hz1 Hz2 Hz3 Hz4 Hz5 Hz6 Hz7 Hz8]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7] <;> iassumption
    isplitl [HoA HoB Hown]
    · iexists (own m c)
      iapply (own_lend c (own m c)).2
      isplitl [HoA]; · iexact HoA
      isplitl [HoB]; · iexact HoB
      iexact Hown
    isplitl [HclT HclK Hcl]
    · iexists (own m (prv c))
      iapply (Entails.of_eq (blk_cl c fullShare (own m (prv c))))
      iapply (cl_lend c (own m (prv c))).2
      isplitl [HclT HclK]
      · isplitl [HclT]; · iexact HclT
        iexact HclK
      iexact Hcl
    isplitl [HcrB HcrK Hcr]
    · iexists (own m (nxt c))
      iapply (Entails.of_eq (blk_cr c fullShare (own m (nxt c))))
      iapply (cr_lend c (own m (nxt c))).2
      isplitl [HcrB HcrK]
      · isplitl [HcrB]; · iexact HcrB
        iexact HcrK
      iexact Hcr
    isplitl [Hop]; · iexists _; iexact Hop
    isplitl [Hw8]; · iexists _; iexact Hw8
    isplitl [Hxs]; · iexact Hxs
    isplitl [Hws]; · iexact Hws
    iapply (slots_join c)
    isplitl [Hsl0] <;> iassumption
  isplitl [HO]
  · iexists _
    isplitr
    rotate_left
    · iexact HO
    ipureintro; exact fun _ _ => Or.inl trivial
  isplitl [Hs0]
  · iexists _; isplitr; · (ipureintro; rfl)
    iexact Hs0
  iexists _; isplitr; · (ipureintro; rfl)
  iexact Hs1

end Cert.RingProof

end
-- ==== Proof.Launch.lean ====
/-
# The launch: every fair run of the kernel on the four devices ends with the computed result
-/
module

public import proofs.«01_k».proof.Proof.Body
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The body, as the pipeline calls it -/

/-- The body as the pipeline calls it, from what the pipeline gives it. -/
def obliged (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 20000 in
theorem body_obligation (c : Dev nD) : BodyObligation (dats (F := F) m ρ 0 c) (defs₀ (F := F)) 𝒱₀ () Set.univ := fun t => by
  rw [fin_N0 t]
  rw [bigSep_two, bigSep_two]
  simp only [owns_whole]
  show obliged m ρ c ⊢ wp frame (wpE (defs₀ (F := F)) 𝒱₀ c none) Set.univ (cc0_body (Memref.whole main_arg0) (Memref.isWhole_whole _) (Memref.whole main_arg1) (Memref.isWhole_whole _) (Memref.whole cc0_stg0_0) (Memref.isWhole_whole _) (Memref.whole cc0_stg1_0) (Memref.isWhole_whole _)
      (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11) (fun _ => bodyPost m ρ c)
  unfold obliged Φ₀ start dealt
  iintro ⟨⟨⟨⟨%K, Hg⟩, Hrest⟩, Hscr⟩, Ho, Hx, Hy⟩
  iapply (sound_body m ρ K c fun _ => bodyPost m ρ c)
  unfold bodyPre
  isplitr []
  · isplitl [Hg]; · iexact Hg
    isplitl [Hrest]; · iexact Hrest
    isplitl [Hscr]; · iexact Hscr
    isplitl [Ho]; · iexact Ho
    isplitl [Hx] <;> iassumption
  · iintro H; iexact H

/-! ## The kernel's own semaphores -/

/-- The launch's scoped semaphores of a device: the local three, the ring's four receives and four sends. -/
abbrev osem : Fin 11 → SemLoc sig := fun
  | 0 => .dma stageS | 1 => .dma outS0 | 2 => .dma outS1
  | 3 => .dma recvS0 | 4 => .dma recvS1 | 5 => .dma recvS2 | 6 => .dma recvS3
  | 7 => .dma sendS0 | 8 => .dma sendS1 | 9 => .dma sendS2 | 10 => .dma sendS3

theorem ownSemFacts : Pipeline.OwnSemFacts cfg0.spec osem := by decide

theorem share_eq (c : Dev nD) (w : Fin cfg0.W) : (dats m ρ 0 c).share w = fullShare := by unfold Dat.share; split <;> rfl

abbrev ownSems (c : Dev nD) : sProp 𝕄 := Pipeline.ownSems0 (Ix := Unit) (Name := ℕ) (U := UU) (Lvl := ℕ) (Val := Elt F) (τ := τ) osem c

theorem ownSems_eq (c : Dev nD) : (ownSems c : sProp 𝕄)
    = iprop(semVal ((c : Thread nD τ), .dma stageS) 0 ∗ semVal ((c : Thread nD τ), .dma outS0) 0 ∗ semVal ((c : Thread nD τ), .dma outS1) 0
      ∗ semVal (kcell (c, 1)) 0 ∗ semVal (kcell (c, 2)) 0 ∗ semVal (kcell (c, 3)) 0 ∗ semVal (kcell (c, 4)) 0
      ∗ semVal (kcell (c, 5)) 0 ∗ semVal (kcell (c, 6)) 0 ∗ semVal (kcell (c, 7)) 0 ∗ semVal (kcell (c, 8)) 0) := by
  unfold ownSems
  rw [Pipeline.ownSems0_eq_of_list c osem [0, 1, 2, 3, 4, 5, 6, 7, 8, 9, 10] (by decide) (by decide)]; rfl
theorem unscopedSems_eq (c : Dev nD) : (unscopedSems0 c : sProp 𝕄) = semVal (kcell (c, 0)) 0 := by
  unfold unscopedSems0; rw [bigSep_eq_bigSepL_of_eq [SemLoc.reg barS] (by decide) (by decide)]; rfl

/-- A device's semaphores are its three local ones and its nine cells of the ring. -/
theorem sems_split (c : Dev nD) : iprop(ownSems c ∗ unscopedSems0 c) ⊢ (iprop(locals c ∗ zeros c) : sProp 𝕄) := by
  unfold locals zeros
  rw [ownSems_eq, unscopedSems_eq, bigSep_nine]
  iintro ⟨⟨Ha, Hb, Hc, H1, H2, H3, H4, H5, H6, H7, H8⟩, H0⟩
  isplitl [Ha Hb Hc]
  · isplitl [Ha]; · iexact Ha
    isplitl [Hb] <;> iassumption
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7] <;> iassumption
theorem sems_join (c : Dev nD) : iprop(locals c ∗ zeros c) ⊢ (iprop(ownSems c ∗ unscopedSems0 c) : sProp 𝕄) := by
  unfold locals zeros
  rw [ownSems_eq, unscopedSems_eq, bigSep_nine]
  iintro ⟨⟨Ha, Hb, Hc⟩, H0, H1, H2, H3, H4, H5, H6, H7, H8⟩
  isplitr [H0]
  · isplitl [Ha]; · iexact Ha
    isplitl [Hb]; · iexact Hb
    isplitl [Hc]; · iexact Hc
    isplitl [H1]; · iexact H1
    isplitl [H2]; · iexact H2
    isplitl [H3]; · iexact H3
    isplitl [H4]; · iexact H4
    isplitl [H5]; · iexact H5
    isplitl [H6]; · iexact H6
    isplitl [H7] <;> iassumption
  iexact H0

/-! ## The ring's cells and tokens at launch -/

def ringCells : Finset (GSem nD τ sig) := Finset.univ.map ⟨kcell, kcell_injective⟩

/-- The ten duties of a device's own cells: both of its barrier, one of each other. -/
def tokCell : Fin 10 → Fin 9 := ![0, 0, 1, 2, 3, 4, 5, 6, 7, 8]
def tokDuty : Fin 10 → Bool := ![true, false, true, true, true, true, true, true, true, true]
abbrev tokOf (cj : Dev nD × Fin 10) : GSem nD τ sig × ℕ × Bool := (kcell (cj.1, tokCell cj.2), 0, tokDuty cj.2)
theorem tok_inj : ∀ j j' : Fin 10, tokCell j = tokCell j' → tokDuty j = tokDuty j' → j = j' := by decide
theorem tokOf_injective : Function.Injective tokOf := by
  rintro ⟨c, j⟩ ⟨c', j'⟩ h
  have h1 := kcell_injective (congrArg Prod.fst h)
  have hc : c = c' := congrArg Prod.fst h1
  have hj : j = j' := tok_inj j j' (congrArg Prod.snd h1) (congrArg (fun x : GSem nD τ sig × ℕ × Bool => x.2.2) h)
  rw [hc, hj]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- The tokens of device `c`'s own cells. -/
def toks (c : Dev nD) : sProp 𝕄 :=
  iprop(dutyTok ER (kcell (c, 0)) 0 true ∗ dutyTok ER (kcell (c, 0)) 0 false
    ∗ dutyTok ER (kcell (c, 1)) 0 true ∗ dutyTok ER (kcell (c, 2)) 0 true ∗ dutyTok ER (kcell (c, 3)) 0 true ∗ dutyTok ER (kcell (c, 4)) 0 true
    ∗ dutyTok ER (kcell (c, 5)) 0 true ∗ dutyTok ER (kcell (c, 6)) 0 true ∗ dutyTok ER (kcell (c, 7)) 0 true ∗ dutyTok ER (kcell (c, 8)) 0 true)

/-- What the launch deals device `c`. -/
def G (c : Dev nD) : sProp 𝕄 :=
  iprop((bigSep Finset.univ fun k : Fin 9 => roundState ER (Rd m) (kcell (c, k)) 0)
    ∗ (bigSep Finset.univ fun k : Fin 9 => iprop(atPos ER (kcell (c, k)) 0 ∅ 0 ∗ reached ER (kcell (c, k)) 0)) ∗ toks c)

theorem bigSep_ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_ten]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The common step -/

/-- Device `c`'s nine invariants made, its positions, its tokens and its local semaphores kept. -/
theorem core_alloc (c : Dev nD) :
    iprop(ownSems c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locals c) := by
  unfold G
  iintro ⟨Hos, Hus, Hst, Hat, Htok⟩
  ihave Hv := (sems_split c) $$ [Hos Hus]
  · isplitl [Hos] <;> iassumption
  icases Hv with ⟨Hl, Hv⟩
  imod (show iprop(zeros c ∗ bigSep Finset.univ fun k : Fin 9 => roundState ER (Rd m) (kcell (c, k)) 0)
      ⊢ (|={Set.univ}=> bigSep Finset.univ fun k => iprop(∃ κ : ℕ, cellInv ER (Rd m) κ (kcell (c, k))) : sProp 𝕄) from by
        unfold zeros
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-- The tokens dealt around the ring, each to the device that pays the duty. -/
theorem toks_around : (bigSep Finset.univ fun c : Dev nD => (toks c : sProp 𝕄)) ⊢ bigSep Finset.univ fun c : Dev nD => payToks c := by
  unfold toks payToks
  simp only [bigSep_sep']
  rw [bigSep_univ_equiv ring.symm (fun c : Dev nD => (dutyTok ER (kcell (c, 0)) 0 true : sProp 𝕄)),
    bigSep_univ_equiv ring (fun c : Dev nD => (dutyTok ER (kcell (c, 0)) 0 false : sProp 𝕄)),
    bigSep_univ_equiv ring (fun c : Dev nD => (dutyTok ER (kcell (c, 1)) 0 true : sProp 𝕄)),
    bigSep_univ_equiv ring.symm (fun c : Dev nD => (dutyTok ER (kcell (c, 2)) 0 true : sProp 𝕄)),
    bigSep_univ_equiv ring (fun c : Dev nD => (dutyTok ER (kcell (c, 3)) 0 true : sProp 𝕄)),
    bigSep_univ_equiv ring.symm (fun c : Dev nD => (dutyTok ER (kcell (c, 4)) 0 true : sProp 𝕄))]
  exact Entails.refl _

theorem deal (K : Dev nD × Fin 9 → ℕ) (c : Dev nD) : iprop(records m K ∗ (ats c ∗ payToks c) ∗ locals c) ⊢ dealt m c := by
  unfold dealt
  iintro H
  iexists K; iexact H

theorem with_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (dealt m) := by
  rw [bigSep_sep', bigSep_sep', bigSep_sep', ← bigSep_univ_prod (fun ck : Dev nD × Fin 9 => iprop(∃ κ : ℕ, cellInv ER (Rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hl⟩
  ihave HK := (BI.bigSep_exists_pi Finset.univ (fun (ck : Dev nD × Fin 9) (κ : ℕ) => (cellInv ER (Rd m) κ (kcell ck) : sProp 𝕄))) $$ HI
  icases HK with ⟨%K, #HI⟩
  ihave Htk := (toks_around (F := F)) $$ Htok
  iapply (with_records (R := records m K) fun c => deal m K c)
  isplitr
  · unfold records; isplitl; · iexact HI
    iexact HR
  simp only [bigSep_sep']
  isplitl [Hat Htk]
  · isplitl [Hat]; · iexact Hat
    iexact Htk
  iexact Hl

theorem glob : (bigSep Finset.univ fun c => iprop(ownSems c ∗ unscopedSems0 c ∗ G m c) : sProp 𝕄) ⊢ |={Set.univ}=> bigSep Finset.univ (dealt m) :=
  ((bigSep_mono fun c _ => core_alloc m c).trans (bigSep_fupd _ _)).trans (BI.fupd_mono (regroup m))

/-! ## The launch credit -/

/-- What all devices together owe one cell, from one payment each. -/
theorem owed_one (σ : Dev nD ≃ Dev nD) (j k : Fin 9) (a : ℕ) (c : Dev nD) :
    ∑ d : Dev nD, (tallyAt (kcell (σ d, j)) () a : CellTallies nD τ sig Unit) (kcell (c, k)) () = if k = j then a else 0 := by
  rw [Equiv.sum_comp σ fun d => (tallyAt (kcell (d, j)) () a : CellTallies nD τ sig Unit) (kcell (c, k)) (),
    Finset.sum_congr rfl fun d _ => tallyAt_apply _ _ _ _ _]
  by_cases h : k = j
  · rw [if_pos h, h, Finset.sum_eq_single c (fun d _ hd => if_neg fun hh => hd (congrArg Prod.fst (kcell_injective hh.1)).symm)
      (fun hh => absurd (Finset.mem_univ c) hh), if_pos ⟨rfl, rfl⟩]
  · rw [if_neg h]
    exact Finset.sum_eq_zero fun d _ => if_neg fun hh => h (congrArg Prod.snd (kcell_injective hh.1))

/-- What all devices together owe device `c`'s cell `k`. -/
theorem owed_all (c : Dev nD) (k : Fin 9) : ∑ d : Dev nD, O₀ d (kcell (c, k)) ()
    = (((((if k = 4 then Nh else 0) + (if k = 3 then Nh else 0)) + (if k = 2 then N else 0)) + (if k = 1 then N else 0)) + (if k = 0 then 1 else 0))
      + (if k = 0 then 1 else 0) := by
  have e (d : Dev nD) : O₀ d (kcell (c, k)) ()
      = ((((((tallyAt (kcell (ring.symm d, 4)) () Nh : CellTallies nD τ sig Unit) (kcell (c, k)) ()
          + (tallyAt (kcell (ring d, 3)) () Nh : CellTallies nD τ sig Unit) (kcell (c, k)) ())
          + (tallyAt (kcell (ring.symm d, 2)) () N : CellTallies nD τ sig Unit) (kcell (c, k)) ())
          + (tallyAt (kcell (ring d, 1)) () N : CellTallies nD τ sig Unit) (kcell (c, k)) ())
          + (tallyAt (kcell (ring d, 0)) () 1 : CellTallies nD τ sig Unit) (kcell (c, k)) ())
          + (tallyAt (kcell (ring.symm d, 0)) () 1 : CellTallies nD τ sig Unit) (kcell (c, k)) ()) := by
    unfold O₀ O₁ O₂ O₃ O₄ O₅
    rw [zero_add]
    rfl
  rw [Finset.sum_congr rfl fun d _ => e d, Finset.sum_add_distrib, Finset.sum_add_distrib, Finset.sum_add_distrib, Finset.sum_add_distrib, Finset.sum_add_distrib,
    owed_one, owed_one, owed_one, owed_one, owed_one, owed_one]

/-- The launch credit of device `c`'s cell `k`, once what is owed it is counted. -/
theorem credit_at (c : Dev nD) (k : Fin 9) (a : ℕ) (h : ∑ d : Dev nD, O₀ d (kcell (c, k)) () = a) :
    tallyOn (kcell (c, k)) (launchCredit (Pipeline.owing O₀) 0 (kcell (c, k))) = (tallyAt (kcell (c, k)) () a : CellTallies nD τ sig Unit) := by
  unfold tallyAt; refine congrArg _ (Finsupp.ext fun u => ?_); cases u
  rw [Pipeline.launchCredit_owing, Finsupp.single_eq_same, h]

theorem count (a b : ℕ) :
    (((((if (0 : Fin 9) = 4 then b else 0) + (if (0 : Fin 9) = 3 then b else 0)) + (if (0 : Fin 9) = 2 then a else 0)) + (if (0 : Fin 9) = 1 then a else 0)) + (if (0 : Fin 9) = 0 then 1 else 0)) + (if (0 : Fin 9) = 0 then 1 else 0) = 2
    ∧ (((((if (1 : Fin 9) = 4 then b else 0) + (if (1 : Fin 9) = 3 then b else 0)) + (if (1 : Fin 9) = 2 then a else 0)) + (if (1 : Fin 9) = 1 then a else 0)) + (if (1 : Fin 9) = 0 then 1 else 0)) + (if (1 : Fin 9) = 0 then 1 else 0) = a
    ∧ (((((if (2 : Fin 9) = 4 then b else 0) + (if (2 : Fin 9) = 3 then b else 0)) + (if (2 : Fin 9) = 2 then a else 0)) + (if (2 : Fin 9) = 1 then a else 0)) + (if (2 : Fin 9) = 0 then 1 else 0)) + (if (2 : Fin 9) = 0 then 1 else 0) = a
    ∧ (((((if (3 : Fin 9) = 4 then b else 0) + (if (3 : Fin 9) = 3 then b else 0)) + (if (3 : Fin 9) = 2 then a else 0)) + (if (3 : Fin 9) = 1 then a else 0)) + (if (3 : Fin 9) = 0 then 1 else 0)) + (if (3 : Fin 9) = 0 then 1 else 0) = b
    ∧ (((((if (4 : Fin 9) = 4 then b else 0) + (if (4 : Fin 9) = 3 then b else 0)) + (if (4 : Fin 9) = 2 then a else 0)) + (if (4 : Fin 9) = 1 then a else 0)) + (if (4 : Fin 9) = 0 then 1 else 0)) + (if (4 : Fin 9) = 0 then 1 else 0) = b := by
  refine ⟨?_, ?_, ?_, ?_, ?_⟩ <;> simp

theorem first_five (Φ : Fin 9 → sProp 𝕄) : bigSep Finset.univ Φ ⊢ iprop(Φ 0 ∗ Φ 1 ∗ Φ 2 ∗ Φ 3 ∗ Φ 4) := by
  rw [bigSep_nine]
  iintro ⟨H0, H1, H2, H3, H4, -⟩
  isplitl [H0]; · iexact H0
  isplitl [H1]; · iexact H1
  isplitl [H2]; · iexact H2
  isplitl [H3] <;> iassumption

theorem creds (c : Dev nD) : (Pipeline.launchCred O₀ c : sProp 𝕄) ⊢ credits c := by
  have h := count N Nh
  have e0 := credit_at c 0 2 ((owed_all c 0).trans h.1)
  have e1 := credit_at c 1 N ((owed_all c 1).trans h.2.1)
  have e2 := credit_at c 2 N ((owed_all c 2).trans h.2.2.1)
  have e3 := credit_at c 3 Nh ((owed_all c 3).trans h.2.2.2.1)
  have e4 := credit_at c 4 Nh ((owed_all c 4).trans h.2.2.2.2)
  unfold Pipeline.launchCred credits
  rw [← e0, ← e1, ← e2, ← e3, ← e4]
  refine (BI.bigSep_subset (Finset.subset_univ (Finset.univ.map ⟨csem, fun _ _ h => csem_inj h⟩))).trans ?_
  rw [bigSep_map]
  exact first_five fun k => cred (tallyOn (kcell (c, k)) (launchCredit (Pipeline.owing O₀) 0 (kcell (c, k))))

/-! ## The launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  rw [Pipeline.unscopedRestP_none, show cfg0.spec = spec0 from rfl, unscopedRest0_eq]
  iintro ⟨Ha, Hlev, Hcr, -, HG⟩
  ihave Hc := (creds (F := F) c) $$ Hcr
  imodintro
  unfold start arrays
  isplitl
  · isplitl [HG]; · iexact HG
    isplitl [Hc]; · iexact Hc
    isplitl [Hlev]; · iexact Hlev
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀ scratch
  iintro ⟨Hs, -, Hr⟩
  isplitl [Hs]; · iexact Hs
  iexact Hr

/-- What a device is left with outside the kernel: its unscoped semaphore at zero, its arrays. -/
def left (c : Dev nD) : sProp 𝕄 := iprop(unscopedSems0 c ∗ arrays m c (out m c))

theorem phi1_exit (c : Dev nD) :
    (dats m ρ 0 c).Φ (Fin.last cfg0.N) ⊢ iprop(left m c ∗ ownSems c ∗ Pipeline.scopedRest cfg0.spec c) := by
  rw [show (dats m ρ 0 c).Φ (Fin.last cfg0.N) = Φ₁ m c from rfl, show cfg0.spec = spec0 from rfl, scopedRest0_eq]
  unfold Φ₁ left scratch
  iintro ⟨Ha, Hl, Hz, Hr⟩
  ihave H := (sems_join c) $$ [Hl Hz]
  · isplitl [Hl] <;> iassumption
  icases H with ⟨Ho, Hu⟩
  isplitl [Hu Ha]
  · isplitl [Hu] <;> iassumption
  isplitl [Ho]; · iexact Ho
  iexact Hr

theorem above_owed (c : Dev nD) (t) : Above 0 ((dats m ρ 0 c).owed t) := by
  rcases t with ⟨_ | _, ht⟩
  · exact above_O₀ c
  · exact above_zero 0

theorem waits (c : Dev nD) : (levAts L lv : sProp 𝕄) ⊢ Pipeline.cellsWaits cfgs (dats m ρ) () 0 c :=
  Pipeline.cellsWaits_intro cfgs (dats m ρ) () 0 c fun w s t =>
    mayWait c _ 0 _ (above_owed m ρ c _) (by
      fin_cases w <;> fin_cases s
      · exact (show (cidx (.dma ((spec0 0).sem 0))).elim 0 rk ≤ 0 by decide +kernel)
      · exact (show (cidx (.dma ((spec0 1).sem 0))).elim 0 rk ≤ 0 by decide +kernel))

/-! ## The run -/

/-- What is read of the final memory of a device: its two blocks unchanged, its result, its unscoped semaphores at zero. -/
def Ends (c : Dev nD) (s : MemSt nD τ sig (Elt F)) : Prop :=
  (s.mem ((c : Thread nD τ).loc main_arg0) = xv m c ∧ s.mem ((c : Thread nD τ).loc main_arg1) = wv m c ∧ s.mem ((c : Thread nD τ).loc main_v1) = out m c)
    ∧ ∀ sm : SemLoc sig, sm.isScoped .tc = false → s.sem ((c.tc : Thread nD τ), sm) = 0

theorem read_one (ℓ : Loc nD τ sig) (f : Buf (Elt F) ℓ) (s' : Phys nD τ sig (Elt F)) :
    iprop(((ℓ ↦{fullShare} f) : sProp 𝕄) ∗ SI s') ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  refine h.trans ?_
  iintro ⟨%h, H⟩
  isplitr; · ipureintro; exact h () (Finset.mem_singleton_self _)
  iexact H

theorem left_read (c : Dev nD) (s' : Phys nD τ sig (Elt F)) : iprop(left m c ∗ emp ∗ SI s') ⊢ |={Set.univ}=> iprop(⌜Ends m c s'.mem⌝ ∗ SI s') := by
  unfold left arrays
  iintro ⟨⟨Hu, H0, H1, Hv⟩, -, HSI⟩
  ihave H := (read_one _ _ s') $$ [H0 HSI]
  · isplitl [H0] <;> iassumption
  icases H with ⟨%h0, HSI⟩
  ihave H := (read_one _ _ s') $$ [H1 HSI]
  · isplitl [H1] <;> iassumption
  icases H with ⟨%h1, HSI⟩
  ihave H := (read_one _ _ s') $$ [Hv HSI]
  · isplitl [Hv] <;> iassumption
  icases H with ⟨%hv, HSI⟩
  imod (Pipeline.unscopedSems0_read (X := unscopedSems0 c) (c := c) fupd_intro s') $$ [Hu HSI] with ⟨%hs, HSI⟩
  · isplitl [Hu] <;> iassumption
  imodintro
  isplitr; · ipureintro; exact ⟨⟨h0, h1, hv⟩, hs⟩
  iexact HSI

/-- Every device's arguments unchanged and its result computed. -/
def Post (r : PUnit × MemSt nD τ sig (Elt F)) : Prop := ∀ c : Dev nD,
  r.2.mem ((c : Thread nD τ).loc main_v1) = out m c
  ∧ r.2.mem ((c : Thread nD τ).loc main_arg0) = m ((c : Thread nD τ).loc main_arg0)
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)

set_option maxRecDepth 8000 in
/-- On four devices, for any values of the floats and from any memory with every counter at zero, every fair run of the
    kernel ends, with each device's arguments unchanged, its result computed and every counter at zero again. -/
theorem run_main : θ_run defs (onTc (τ := τ) (main (F := F))) (s₀ m ρ) (fun r => Post m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := dealt m) (u₀ := u₀)
    (hu₀ := by
      unfold u₀
      iintro Hu
      ihave H := (ownU_pair _ _) $$ Hu
      icases H with ⟨HP, HX⟩
      ihave H := (own_pair_emb embR (initOf ringCells ringToks) (1 : Counters)) $$ HX
      icases H with ⟨HX, -⟩
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := Ends m) (hY := left_read m)
    (hQ := fun s h hs => ⟨fun c => ⟨(h c).2.2.1.2.2, (h c).2.2.1.1, (h c).2.2.1.2.1,
        ((h c).1 0).trans ((dats m ρ 0 c).arrAt_in (0 : Fin 2) rfl _), ((h c).1 1).trans ((dats m ρ 0 c).arrAt_in (1 : Fin 2) rfl _)⟩,
      sem_eq_zero hs fun c => (h c).2.2.2⟩)

end Cert.RingProof

end
-- ==== Proof.Blocks.lean ====
/-
# One block of the result, over the reals

Over the extended reals a change of float format is the identity and a product of matrices is the sum of products. So
an entry of the kernel's result is the gate `y / (1 + e^(-y))` of a scaled sum of products.
-/
module

public import proofs.«01_k».proof.Proof.Emit
public import Idealize.ShloMosaic.Lib.MatmulPlain
public import Idealize.ShloMosaic.Lib.IdealHost

@[expose] public section

noncomputable section

namespace Cert.RingProof

open Cert.KernelIdeal Cert.KernelIdeal.Gen
open Idealize.ShloMosaic Idealize.ShloMosaic.TcCoe
open Idealize.ShloMosaic.ValueIdx (ix2 eq_ix2)
open scoped BigOperators

/-- The gate: `y / (1 + e^(-y))`. -/
def silu (y : EReal) : EReal := Ideal.div y (1 + Ideal.exp (-y))

/-- An exponential is not negative. -/
theorem exp_nonneg (y : EReal) : 0 ≤ Ideal.exp y := by
  induction y with
  | bot => exact le_rfl
  | top => exact le_top
  | coe r => exact EReal.coe_nonneg.2 (Real.exp_pos r).le

/-- So the gate's divisor is not zero. -/
theorem gate_ne_zero (y : EReal) : (1 : EReal) + Ideal.exp y ≠ 0 := by
  have h : (1 : EReal) + 0 ≤ 1 + Ideal.exp y := add_le_add le_rfl (exp_nonneg y)
  rw [add_zero] at h
  exact (lt_of_lt_of_le zero_lt_one h).ne'

/-- `y` times its logistic is the gate of `y`. -/
theorem mul_logistic (y : EReal) : y * Ideal.logistic y = silu y := by
  unfold Ideal.logistic silu Ideal.div
  rw [if_neg (gate_ne_zero _), if_neg (gate_ne_zero _), one_mul]

/-- An entry of one block: the gate of the scaled sum of products. -/
theorem act_apply (s : EReal) (x : Vec Ideal S1024x4096 .fp8e4m3) (w : Vec Ideal S4096x2048 .fp8e4m3) (r : Fin 1024) (c : Fin 2048) :
    act (F := Ideal) s x w (ix2 r c) = silu ((∑ k : Fin 4096, (x (ix2 r k) : EReal) * w (ix2 k c)) * s) := by
  have h : FloatOps.matmul (F := Ideal) (φ₁ := .fp8e4m3) (φ₂ := .fp8e4m3) (DotDims.plain 1024 4096 2048) none x w (constant S1024x2048 .f32 0x00000000#32) (ix2 r c)
      = ∑ k : Fin 4096, (x (ix2 r k) : EReal) * w (ix2 k c) := by
    rw [Ideal.matmul_plain_apply]
    refine (congrArg (· + _) ?_).trans (zero_add _)
    exact Ideal.ofBits_zero_f32
  rw [← mul_logistic, ← h]
  rfl

variable (m : (ℓ : Loc nD τ sig) → Buf (Elt Ideal) ℓ)

/-- Row `i` of the result comes from the block of `x` that device `i / 1024` holds; -/
abbrev rowDev (i : Fin 4096) : Dev nD := ⟨i.val / 1024, by show _ < 4; omega⟩
/-- from its row `i % 1024`. -/
abbrev rowIn (i : Fin 4096) : Fin 1024 := ⟨i.val % 1024, Nat.mod_lt _ (by decide)⟩

/-- An entry of a device's result: the gate of the scaled sum of products of that row of `x`, wherever it lies, and the device's column of `w`. -/
theorem out_apply (c : Dev nD) (i : Fin 4096) (j : Fin 2048) :
    out m c (ix2 i j) = silu ((∑ k : Fin 4096, (xv m (rowDev i) (ix2 (rowIn i) k) : EReal) * wv m c (ix2 k j)) * scale m c) := by
  have e : out m c (ix2 i j) = outBlock m c (rowDev i) (ix2 (rowIn i) j) := by
    unfold out
    refine congrArg (outBlock m c (rowDev i)) (funext fun a => ?_)
    match a with
    | ⟨0, _⟩ => rfl
    | ⟨1, _⟩ => rfl
  rw [e]
  exact act_apply (scale m c) (own m (rowDev i)) (w8 m c) (rowIn i) j

end Cert.RingProof

end
-- ==== Proof.Reference.lean ====
/-
# What the reference computes

The reference multiplies the whole matrices on one device, scales, and applies the gate `y / (1 + e^(-y))`.
-/
module

public import proofs.«01_k».proof.Proof.Gen.ReferenceIdeal.Run
public import proofs.«01_k».proof.Proof.Blocks
public import Idealize.ShloMosaic.Lib.StackMember

@[expose] public section

noncomputable section

namespace Cert.RingProof.Whole

open Cert.ReferenceIdeal Cert.ReferenceIdeal.Gen
open Idealize.ShloMosaic Idealize.ShloMosaic.TcCoe Idealize.SL.Sem
open Idealize.ShloMosaic.ValueIdx (ix2 eq_ix2)
open scoped BigOperators

/-- The product of the two scales, copied to every entry. -/
def scales (a b : FVec Ideal S1 .f32) : FVec Ideal S4096x8192 .f32 :=
  broadcastInDim S4096x8192 ![0, 1] bcast_S1x1_S4096x8192_0_1 (broadcastInDim S1x1 ![1] bcast_S1_S1x1_1 (mulf a b))

/-- The scaled product of the two matrices. -/
def scaled (x : FVec Ideal S4096x4096 .f32) (w : FVec Ideal S4096x8192 .f32) (a b : FVec Ideal S1 .f32) : FVec Ideal S4096x8192 .f32 :=
  mulf (Host.dotGeneral dot_S4096x4096_S4096x8192_S4096x8192_1_0_0_1_n_n none x w) (scales a b)

/-- The reference's result. -/
def result (x : FVec Ideal S4096x4096 .f32) (w : FVec Ideal S4096x8192 .f32) (a b : FVec Ideal S1 .f32) : FVec Ideal S4096x8192 .f32 :=
  Host.divf (scaled x w a b)
    (addf (broadcastInDim S4096x8192 ![] bcast_S_S4096x8192 (constant S_ .f32 0x3F800000#32)) (Host.exp (Host.negf (scaled x w a b))))

/-- The one index of a scale. -/
abbrev one : S1.Idx := Shape.Idx.first (s := S1) (by decide)

/-- The copied scale, at any entry. -/
theorem scales_apply (a b : FVec Ideal S1 .f32) (i : S4096x8192.Idx) : scales a b i = a one * b one := by
  have h : ∀ j : S1.Idx, mulf a b j = a one * b one := fun j => by
    have e : j = one := by
      funext t
      match t with
      | ⟨0, _⟩ => exact Subsingleton.elim (α := Fin 1) _ _
    rw [e]
    rfl
  exact h _

/-- An entry of the scaled product. -/
theorem scaled_apply (x : FVec Ideal S4096x4096 .f32) (w : FVec Ideal S4096x8192 .f32) (a b : FVec Ideal S1 .f32) (i : Fin 4096) (j : Fin 8192) :
    scaled x w a b (ix2 i j) = (∑ k : Fin 4096, x (ix2 i k) * w (ix2 k j)) * (a one * b one) := by
  have h : Host.dotGeneral (F := Ideal) (DotDims.plain 4096 4096 8192) none x w (ix2 i j) = ∑ k : Fin 4096, x (ix2 i k) * w (ix2 k j) :=
    StackMember.dotGeneral_plain_apply none x w i j
  rw [← h, ← scales_apply a b (ix2 i j)]
  rfl

/-- An entry of the result is the gate of the entry of the scaled product. -/
theorem result_apply (x : FVec Ideal S4096x4096 .f32) (w : FVec Ideal S4096x8192 .f32) (a b : FVec Ideal S1 .f32) (i : Fin 4096) (j : Fin 8192) :
    result x w a b (ix2 i j) = silu ((∑ k : Fin 4096, x (ix2 i k) * w (ix2 k j)) * (a one * b one)) := by
  rw [← scaled_apply]
  show Ideal.div (scaled x w a b (ix2 i j)) (Ideal.ofBits .f32 0x3F800000#32 + Ideal.exp (-(scaled x w a b (ix2 i j)))) = _
  rw [Ideal.ofBits_one_f32]
  rfl

/-- The reference's run: its result as above, its arguments unchanged, every counter at zero. -/
theorem run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD,
        r.2.mem ((c : Thread nD τ).loc main_v9)
            = result (m ((c : Thread nD τ).loc main_arg0)) (m ((c : Thread nD τ).loc main_arg1)) (m ((c : Thread nD τ).loc main_arg2)) (m ((c : Thread nD τ).loc main_arg3))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0 :=
  (θ_run defs _ _).mono (fun r h => ⟨h, sem_eq_zero_of_no_sems (by decide) r.2⟩) (Value.run m ρ)

end Cert.RingProof.Whole

end
-- ==== Proof.Equation.lean ====
/-
# The equation

Where device `c`'s blocks of `x` and `w` are the blocks of the whole matrices, its result is block `c` of the whole
result: row `i` of the kernel's result uses row `i % 1024` of the block of `x` on device `i / 1024`, which is row `i` of
`x`, and column `j` of the device's block of `w` is column `2048 c + j` of `w`.
-/
module

public import proofs.«01_k».proof.Proof.Reference
public import Idealize.ShloMosaic.Lib.Layout

@[expose] public section

noncomputable section

namespace Cert.RingProof

open Cert.KernelIdeal Cert.KernelIdeal.Gen
open Idealize.ShloMosaic Idealize.ShloMosaic.TcCoe
open Idealize.ShloMosaic.ValueIdx (ix2 eq_ix2)
open scoped BigOperators

variable (m : (ℓ : Loc nD τ sig) → Buf (Elt Ideal) ℓ)
variable (x : FVec Ideal Cert.ReferenceIdeal.S4096x4096 .f32) (w : FVec Ideal Cert.ReferenceIdeal.S4096x8192 .f32)
variable (a b : FVec Ideal Cert.ReferenceIdeal.S1 .f32)

/-- A row of the whole `x`, read in the block of the device that holds it. -/
theorem x_row (hx : ∀ c : Dev nD, xv m c = Layout.block ⟨2, ![1024, 4096]⟩ ⟨2, ![4096, 4096]⟩ 0 4 c x) (i k : Fin 4096) :
    (xv m (rowDev i) (ix2 (rowIn i) k) : EReal) = x (ix2 i k) := by
  rw [hx]
  refine congrArg x (funext fun t => Fin.ext ?_)
  match t with
  | ⟨0, _⟩ => show i.val / 1024 * 1024 + i.val % 1024 = i.val; omega
  | ⟨1, _⟩ => rfl

/-- Device `c`'s result is block `c` of the whole result. -/
theorem out_eq
    (hx : ∀ c : Dev nD, xv m c = Layout.block ⟨2, ![1024, 4096]⟩ ⟨2, ![4096, 4096]⟩ 0 4 c x)
    (hw : ∀ c : Dev nD, wv m c = Layout.block ⟨2, ![4096, 2048]⟩ ⟨2, ![4096, 8192]⟩ 1 4 c w)
    (ha : ∀ c : Dev nD, m ((c : Thread nD τ).loc main_arg2) = a) (hb : ∀ c : Dev nD, m ((c : Thread nD τ).loc main_arg3) = b) (c : Dev nD) :
    out m c = Layout.block ⟨2, ![4096, 2048]⟩ ⟨2, ![4096, 8192]⟩ 1 4 c (Whole.result x w a b) := by
  funext i
  obtain ⟨r, j, rfl⟩ : ∃ (r : Fin 4096) (j : Fin 2048), i = ix2 r j := ⟨i 0, i 1, eq_ix2 i⟩
  have hc : c.val < 4 := c.isLt
  have ej : (Layout.block ⟨2, ![4096, 2048]⟩ ⟨2, ![4096, 8192]⟩ 1 4 c (Whole.result x w a b) : Vec Ideal S4096x2048 .f32) (ix2 r j)
      = Whole.result x w a b (ix2 r ⟨c.val * 2048 + j.val, by omega⟩) := by
    refine congrArg (Whole.result x w a b) (funext fun t => ?_)
    match t with
    | ⟨0, _⟩ => rfl
    | ⟨1, _⟩ => rfl
  have es : scale m c = (a Whole.one : EReal) * b Whole.one := by unfold scale; rw [ha, hb]; rfl
  rw [ej, out_apply, Whole.result_apply, es]
  refine congrArg (fun z : EReal => silu (z * _)) (Finset.sum_congr rfl fun k _ => ?_)
  rw [x_row m x hx, hw]
  refine congrArg (fun z : EReal => x (ix2 r k) * z) (congrArg w (funext fun t => ?_))
  match t with
  | ⟨0, _⟩ => rfl
  | ⟨1, _⟩ => rfl

end Cert.RingProof

end
-- ==== Proof.Clipped.lean ====
/-
# The reference with the clip

`reference.py` clips the exponent of the gate to [-60, 60]. Where the scaled product lies in that range the clip changes
nothing, so there its result is the gate `y / (1 + e^(-y))`. The mask selects the entries of that range.
-/
module

public import proofs.«01_k».proof.Proof.Gen.ClippedIdeal.Run
public import proofs.«01_k».proof.Proof.Gen.On_within_clip
public import proofs.«01_k».proof.Proof.Reference

@[expose] public section

noncomputable section

namespace Cert.RingProof.Clip

open Cert.ClippedIdeal Cert.ClippedIdeal.Gen
open Idealize.ShloMosaic Idealize.ShloMosaic.TcCoe Idealize.SL.Sem
open Idealize.ShloMosaic.ValueIdx (ix2 eq_ix2)

/-- The upper bound of the clip. -/
theorem bound_pos : Ideal.ofBits .f32 0x42700000#32 = ((60 : ℝ) : EReal) := by
  simp [Ideal.ofBits, Ideal.ieee, -EReal.coe_mul]; norm_num

/-- The lower bound of the clip. -/
theorem bound_neg : Ideal.ofBits .f32 0xC2700000#32 = ((-(60 : ℝ) : ℝ) : EReal) := by
  simp [Ideal.ofBits, Ideal.ieee, -EReal.coe_mul, -EReal.coe_neg]; norm_num

/-- The lower bound is the upper one negated. -/
theorem bound_neg_eq : Ideal.ofBits .f32 0xC2700000#32 = -Ideal.ofBits .f32 0x42700000#32 := by
  rw [bound_pos, bound_neg, EReal.coe_neg]

/-- The clip to [-60, 60]. -/
def clip (y : EReal) : EReal := min (Ideal.ofBits .f32 0x42700000#32) (max (Ideal.ofBits .f32 0xC2700000#32) y)

/-- The clip changes no value of its range. -/
theorem clip_eq (y : EReal) (h : max y (-y) ≤ Ideal.ofBits .f32 0x42700000#32) : clip y = y := by
  have h1 : y ≤ Ideal.ofBits .f32 0x42700000#32 := (le_max_left _ _).trans h
  have h2 : Ideal.ofBits .f32 0xC2700000#32 ≤ y := by
    rw [bound_neg_eq]
    exact EReal.neg_le_of_neg_le ((le_max_right _ _).trans h)
  rw [clip, max_eq_right h2, min_eq_right h1]

/-- The whole result, with the clip. -/
def result (x : FVec Ideal S4096x4096 .f32) (w : FVec Ideal S4096x8192 .f32) (a b : FVec Ideal S1 .f32) : FVec Ideal S4096x8192 .f32 :=
  Host.divf (Whole.scaled x w a b)
    (addf (broadcastInDim S4096x8192 ![] bcast_S_S4096x8192 (constant S_ .f32 0x3F800000#32))
      (Host.exp (Host.negf (minimumf (broadcastInDim S4096x8192 ![] bcast_S_S4096x8192 (id (constant S_ .f32 0x42700000#32)))
        (maximumf (broadcastInDim S4096x8192 ![] bcast_S_S4096x8192 (id (constant S_ .f32 0xC2700000#32))) (Whole.scaled x w a b))))))

/-- An entry of the mask says that the scaled product lies in the clip's range. -/
theorem mask_apply (x : FVec Ideal S4096x4096 .f32) (w : FVec Ideal S4096x8192 .f32) (a b : FVec Ideal S1 .f32) (i : S4096x8192.Idx)
    (h : Cert.On_within_clip.fn (F := Ideal) x w a b i = 1#1) :
    max (Whole.scaled x w a b i) (-(Whole.scaled x w a b i) : EReal) ≤ Ideal.ofBits .f32 0x42700000#32 := by
  have h' : BitVec.ofBool (decide (max (Whole.scaled x w a b i) (-(Whole.scaled x w a b i) : EReal) ≤ Ideal.ofBits .f32 0x42700000#32)) = 1#1 := h
  by_contra hn
  rw [decide_eq_false hn] at h'
  exact absurd h' (by decide)

/-- Under the mask the clip may be left out. -/
theorem result_eq (x : FVec Ideal S4096x4096 .f32) (w : FVec Ideal S4096x8192 .f32) (a b : FVec Ideal S1 .f32) (i : S4096x8192.Idx)
    (h : Cert.On_within_clip.fn (F := Ideal) x w a b i = 1#1) : result x w a b i = Whole.result x w a b i := by
  show Ideal.div (Whole.scaled x w a b i) (Ideal.ofBits .f32 0x3F800000#32 + Ideal.exp (-(clip (Whole.scaled x w a b i))))
    = Ideal.div (Whole.scaled x w a b i) (Ideal.ofBits .f32 0x3F800000#32 + Ideal.exp (-(Whole.scaled x w a b i)))
  rw [clip_eq _ (mask_apply x w a b i h)]

/-- The run: the result as above, the arguments unchanged, every counter at zero. -/
theorem run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD,
        r.2.mem ((c : Thread nD τ).loc main_v10)
            = result (m ((c : Thread nD τ).loc main_arg0)) (m ((c : Thread nD τ).loc main_arg1)) (m ((c : Thread nD τ).loc main_arg2)) (m ((c : Thread nD τ).loc main_arg3))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0 :=
  (θ_run defs _ _).mono (fun r h => ⟨h, sem_eq_zero_of_no_sems (by decide) r.2⟩) (Value.run m ρ)

end Cert.RingProof.Clip

end
-- ==== Proof.lean ====
/-
# The kernel's claims

The claims of the certificate: the kernel and its idealization run quiet on the four devices, the two references run,
the idealization changes nothing, and the idealized kernel's four results are the blocks of the reference's, and of the
clipped reference's at every entry that the clip does not reach.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_within_clip
public import proofs.«01_k».proof.Proof.Launch
public import proofs.«01_k».proof.Proof.Equation
public import proofs.«01_k».proof.Proof.Clipped

@[expose] public section

noncomputable section

namespace Cert.Proof

open Idealize.ShloMosaic Idealize.SL.Sem

/-- The run's frame over any float values: the arguments unchanged, every counter back at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0 :=
  (θ_run Cert.KernelIdeal.defs _ _).mono (fun _ h => ⟨fun c => (h.1 c).2, h.2⟩) (Cert.RingProof.run_main m ρ)

/-- The kernels' body tables of the two programs are one table: the same text. -/
theorem same_bodies : Cert.Kernel.defs₀ (F := Bits) = Cert.KernelIdeal.defs₀ := by
  unfold Cert.Kernel.defs₀ Cert.KernelIdeal.defs₀
  congr 1
  funext l a
  match l, a with
  | 0, (t, s) => rfl

/-- So are the tables with the pipelines' labels added. -/
theorem same_defs : Cert.Kernel.defs (F := Bits) = Cert.KernelIdeal.defs :=
  congrArg (Pipeline.defs (Cert.KernelIdeal.pcfgs (F := Bits))) same_bodies

/-- The kernel on the chip's floats runs quiet. -/
theorem frame_kernel : Cert.quiescent_Kernel := fun m ρ _ => by
  rw [same_defs]
  exact frame_any (F := Bits) m ρ

/-- The kernel on the reals runs quiet. -/
theorem frame_ideal : Cert.quiescent_KernelIdeal := fun m ρ _ => frame_any (F := Ideal) m ρ

/-- The reference runs, its arguments unchanged and every counter at zero. -/
theorem frame_reference : Cert.quiescent_ReferenceIdeal := fun m ρ _ =>
  (θ_run Cert.ReferenceIdeal.defs _ _).mono (fun _ h => ⟨fun c => (h.1 c).2, h.2⟩) (Cert.RingProof.Whole.run m ρ)

/-- Over the reals, device `c`'s result is block `c` of the reference's. -/
theorem algebraic : Cert.algebraic_KernelIdeal_ReferenceIdeal := fun m ρ m' ρ' _ h =>
  ⟨_,
    (θ_run Cert.KernelIdeal.defs _ _).mono
      (fun _ hr c => ⟨(hr.1 c).1.trans
        (Cert.RingProof.out_eq m _ _ _ _ (fun c => (h c).1) (fun c => (h c).2.1) (fun c => (h c).2.2.1) (fun c => (h c).2.2.2) c), (hr.1 c).2⟩)
      (Cert.RingProof.run_main (F := Ideal) m ρ),
    (θ_run Cert.ReferenceIdeal.defs _ _).mono (fun _ hr => hr.1 0) (Cert.RingProof.Whole.run m' ρ')⟩

/-- The clipped reference runs, its arguments unchanged and every counter at zero. -/
theorem frame_clipped : Cert.quiescent_ClippedIdeal := fun m ρ _ =>
  (θ_run Cert.ClippedIdeal.defs _ _).mono (fun _ h => ⟨fun c => (h.1 c).2, h.2⟩) (Cert.RingProof.Clip.run m ρ)

/-- At every entry that the mask selects, device `c`'s result is block `c` of the clipped reference's. -/
theorem algebraic_clipped : Cert.algebraic_KernelIdeal_ClippedIdeal_on_within_clip := fun m ρ m' ρ' _ h =>
  ⟨_,
    (θ_run Cert.KernelIdeal.defs _ _).mono
      (fun _ hr c => ⟨fun i hi => (congrFun ((hr.1 c).1.trans
        (Cert.RingProof.out_eq m _ _ _ _ (fun c => (h c).1) (fun c => (h c).2.1) (fun c => (h c).2.2.1) (fun c => (h c).2.2.2) c)) i).trans
        (Cert.RingProof.Clip.result_eq _ _ _ _ _ hi).symm, (hr.1 c).2⟩)
      (Cert.RingProof.run_main (F := Ideal) m ρ),
    (θ_run Cert.ClippedIdeal.defs _ _).mono (fun _ hr => ⟨fun i _ => congrFun (hr.1 0).1 i, (hr.1 0).2⟩) (Cert.RingProof.Clip.run m' ρ')⟩

/-- The claims. -/
theorem claim : Cert.Claim := ⟨Cert.Kernel.Gen.facts, Cert.KernelIdeal.Gen.facts, Cert.ReferenceIdeal.Gen.facts,
  Cert.ClippedIdeal.Gen.facts, Cert.On_within_clip.Gen.facts,
  frame_kernel, frame_ideal, frame_reference, frame_clipped, trivial, algebraic, algebraic_clipped⟩

end Cert.Proof

end
